-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S2x256x4x64 1) : IVec S_ 1 :=
  let main_c_5 : IVec S_ 1 := constantI S_ 1 1#1
  let main_v17 : IVec S_ 1 := (fun x v => Host.reduce IntOp.andi x v reducesTo_S2x256x4x64_S_d0_1_2_3 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  let main_v14 : FVec F S2x256x4x64 .f32 := Host.absf main_arg3
  let main_cst_4 : FVec F S_ .f32 := constant S_ .f32 0x7F800000#32
  let main_v15 : FVec F S2x256x4x64 .f32 := broadcastInDim S2x256x4x64 ![] bcast_S_S2x256x4x64 main_cst_4
  let main_v16 : IVec S2x256x4x64 1 := cmpf .olt main_v14 main_v15
  fn_part1 (F := F) main_arg4 main_v13 main_v16
-- ==== Pre_finite_inputs_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S2x2048x4x64 1) : IVec S_ 1 :=
  let main_c_5 : IVec S_ 1 := constantI S_ 1 1#1
  let main_v17 : IVec S_ 1 := (fun x v => Host.reduce IntOp.andi x v reducesTo_S2x2048x4x64_S_d0_1_2_3 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  let main_v14 : FVec F S2x2048x4x64 .f32 := Host.absf main_arg3
  let main_cst_4 : FVec F S_ .f32 := constant S_ .f32 0x7F800000#32
  let main_v15 : FVec F S2x2048x4x64 .f32 := broadcastInDim S2x2048x4x64 ![] bcast_S_S2x2048x4x64 main_cst_4
  let main_v16 : IVec S2x2048x4x64 1 := cmpf .olt main_v14 main_v15
  fn_part1 (F := F) main_arg4 main_v13 main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x4x256x64 : Shape := ⟨4, ![2, 4, 256, 64]⟩
abbrev S512x4x64 : Shape := ⟨3, ![512, 4, 64]⟩
abbrev S4x512x64 : Shape := ⟨3, ![4, 512, 64]⟩
abbrev S_ : Shape := ⟨0, ![]⟩
abbrev S5 : Shape := ⟨1, ![5]⟩
abbrev S4 : Shape := ⟨1, ![4]⟩
abbrev S1 : Shape := ⟨1, ![1]⟩
abbrev S2x4x128x64 : Shape := ⟨4, ![2, 4, 128, 64]⟩
abbrev S256x256 : Shape := ⟨2, ![256, 256]⟩
abbrev S1x256x512 : Shape := ⟨3, ![1, 256, 512]⟩
abbrev S1x512x64 : Shape := ⟨3, ![1, 512, 64]⟩
abbrev S512x64 : Shape := ⟨2, ![512, 64]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S64x512 : Shape := ⟨2, ![64, 512]⟩

abbrev nBuf : Space → Nat
  | .hbm => 17
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x4x256x64, .f32⟩
  | .hbm, ⟨6, _⟩ => ⟨S2x4x256x64, .bf16⟩
  | .hbm, ⟨7, _⟩ => ⟨S2x4x256x64, .f32⟩
  | .hbm, ⟨8, _⟩ => ⟨S2x4x256x64, .bf16⟩
  | .hbm, ⟨9, _⟩ => ⟨S512x4x64, .f32⟩
  | .hbm, ⟨10, _⟩ => ⟨S4x512x64, .f32⟩
  | .hbm, ⟨11, _⟩ => ⟨S_, .f32⟩
  | .hbm, ⟨12, _⟩ => ⟨S4x512x64, .f32⟩
  | .hbm, ⟨13, _⟩ => ⟨S4x512x64, .f32⟩
  | .hbm, ⟨14, _⟩ => ⟨S4x512x64, .bf16⟩
  | .hbm, ⟨15, _⟩ => ⟨S256x512, .bf16⟩
  | .hbm, ⟨16, _⟩ => ⟨S2x256x512, .f32⟩
  | .local _ .vmem, ⟨0, _⟩ => ⟨S2x256x512, .f32⟩
  | .local _ .vmem, ⟨1, _⟩ => ⟨S2x256x512, .f32⟩
  | .local _ .vmem, ⟨2, _⟩ => ⟨S4x512x64, .bf16⟩
  | .local _ .vmem, ⟨3, _⟩ => ⟨S2x4x256x64, .bf16⟩
  | .local _ .vmem, ⟨4, _⟩ => ⟨S2x4x256x64, .bf16⟩
  | .local _ .vmem, ⟨5, _⟩ => ⟨S256x512, .bf16⟩
  | .local _ .vmem, ⟨6, _⟩ => ⟨S2x4x256x64, .bf16⟩
  | .local _ .vmem, ⟨7, _⟩ => ⟨S2x4x256x64, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4 : BitVec 32 := 0#32
  let v18 : BitVec 1 := Scalar.cmpi .sgt v2 c0_i32_4
  let v19 : BitVec 32 := Scalar.extui v18
  let c0_i32_5 : BitVec 32 := 0#32
  let v20 : BitVec 1 := Scalar.cmpi .ne v19 c0_i32_5
  v20

def k0_dev1 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c0_i32 : BitVec 32 := 0#32
  let v4 : BitVec 32 := Scalar.maxsi v3 c0_i32
  let c1_i32_322 : BitVec 32 := 1#32
  let v400 : BitVec 32 := Scalar.muli v4 c1_i32_322
  let v401 : BitVec 32 := Scalar.addi c0_i32_323 v400
  v401.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v21 : BitVec 1 := Scalar.cmpi .slt v2 c7_i32_6
  let v22 : BitVec 32 := Scalar.extui v21
  let c0_i32_7 : BitVec 32 := 0#32
  let v23 : BitVec 1 := Scalar.cmpi .ne v22 c0_i32_7
  v23

def k0_dev2 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c7_i32 : BitVec 32 := 7#32
  let v6 : BitVec 32 := Scalar.minsi v5 c7_i32
  let c1_i32_322 : BitVec 32 := 1#32
  let v400 : BitVec 32 := Scalar.muli v6 c1_i32_322
  let v401 : BitVec 32 := Scalar.addi c0_i32_323 v400
  v401.toNat
def k0_amt1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v30 : BitVec 1 := Scalar.cmpi .sgt v2 c0_i32_12
  let v31 : BitVec 32 := Scalar.extui v30
  let c7_i32_13 : BitVec 32 := 7#32
  let v32 : BitVec 1 := Scalar.cmpi .slt v2 c7_i32_13
  let v33 : BitVec 32 := Scalar.extui v32
  let v34 : BitVec 32 := Scalar.addi v31 v33
  v34

def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_16 : BitVec 32 := 7#32
  let v39 : BitVec 1 := Scalar.cmpi .slt v2 c7_i32_16
  let v40 : BitVec 32 := Scalar.extui v39
  let c0_i32_19 : BitVec 32 := 0#32
  let v41 : BitVec 1 := Scalar.cmpi .ne v40 c0_i32_19
  v41

def k0_dev3 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c7_i32 : BitVec 32 := 7#32
  let v6 : BitVec 32 := Scalar.minsi v5 c7_i32
  let c1_i32_321 : BitVec 32 := 1#32
  let v400 : BitVec 32 := Scalar.muli v6 c1_i32_321
  let v401 : BitVec 32 := Scalar.addi c0_i32_322 v400
  v401.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v42 : BitVec 1 := Scalar.cmpi .sgt v2 c0_i32_20
  let v43 : BitVec 32 := Scalar.extui v42
  let c0_i32_23 : BitVec 32 := 0#32
  let v44 : BitVec 1 := Scalar.cmpi .ne v43 c0_i32_23
  v44

def k0_dev4 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c0_i32 : BitVec 32 := 0#32
  let v4 : BitVec 32 := Scalar.maxsi v3 c0_i32
  let c1_i32_321 : BitVec 32 := 1#32
  let v400 : BitVec 32 := Scalar.muli v4 c1_i32_321
  let v401 : BitVec 32 := Scalar.addi c0_i32_322 v400
  v401.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_24 : BitVec 32 := 7#32
  let v45 : BitVec 1 := Scalar.cmpi .slt v2 c7_i32_24
  let v46 : BitVec 32 := Scalar.extui v45
  let c0_i32_27 : BitVec 32 := 0#32
  let v47 : BitVec 1 := Scalar.cmpi .ne v46 c0_i32_27
  v47

def k0_dev5 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c7_i32 : BitVec 32 := 7#32
  let v6 : BitVec 32 := Scalar.minsi v5 c7_i32
  let c1_i32_321 : BitVec 32 := 1#32
  let v400 : BitVec 32 := Scalar.muli v6 c1_i32_321
  let v401 : BitVec 32 := Scalar.addi c0_i32_322 v400
  v401.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_28 : BitVec 32 := 0#32
  let v48 : BitVec 1 := Scalar.cmpi .sgt v2 c0_i32_28
  let v49 : BitVec 32 := Scalar.extui v48
  let c0_i32_31 : BitVec 32 := 0#32
  let v50 : BitVec 1 := Scalar.cmpi .ne v49 c0_i32_31
  v50

def k0_dev6 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c0_i32 : BitVec 32 := 0#32
  let v4 : BitVec 32 := Scalar.maxsi v3 c0_i32
  let c1_i32_321 : BitVec 32 := 1#32
  let v400 : BitVec 32 := Scalar.muli v4 c1_i32_321
  let v401 : BitVec 32 := Scalar.addi c0_i32_322 v400
  v401.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x2048x256, .f32⟩
  | .hbm, ⟨6, _⟩ => ⟨S2x2048x4x64, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S2x4x2048x2048, .f32⟩
  | .hbm, ⟨19, _⟩ => ⟨S_, .f32⟩
  | .hbm, ⟨20, _⟩ => ⟨S2x4x2048x2048, .f32⟩
  | .hbm, ⟨21, _⟩ => ⟨S2x4x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S2x4x2048x2048, .i1⟩
  | .hbm, ⟨26, _⟩ => ⟨S2x4x2048x2048, .f32⟩
  | .hbm, ⟨27, _⟩ => ⟨S2x4x2048x2048, .f32⟩
  | .hbm, ⟨28, _⟩ => ⟨S_, .f32⟩
  | .hbm, ⟨29, _⟩ => ⟨S2x4x2048, .f32⟩
  | .hbm, ⟨30, _⟩ => ⟨S2x4x2048x1, .f32⟩
  | .hbm, ⟨31, _⟩ => ⟨S2x4x2048x2048, .f32⟩
  | .hbm, ⟨32, _⟩ => ⟨S2x4x2048x2048, .f32⟩
  | .hbm, ⟨33, _⟩ => ⟨S2x4x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S2x4x2048, .f32⟩
  | .hbm, ⟨39, _⟩ => ⟨S2x4x2048x1, .f32⟩
  | .hbm, ⟨40, _⟩ => ⟨S_, .f32⟩
  | .hbm, ⟨41, _⟩ => ⟨S_, .f32⟩
  | .hbm, ⟨42, _⟩ => ⟨S2x4x2048x1, .i1⟩
  | .hbm, ⟨43, _⟩ => ⟨S2x4x2048x1, .f32⟩
  | .hbm, ⟨44, _⟩ => ⟨S2x4x2048x1, .f32⟩
  | .hbm, ⟨45, _⟩ => ⟨S2x4x2048x2048, .f32⟩
  | .hbm, ⟨46, _⟩ => ⟨S2x4x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S2x4x2048x2048, .i1⟩
  | .hbm, ⟨51, _⟩ => ⟨S2x4x2048x2048, .f32⟩
  | .hbm, ⟨52, _⟩ => ⟨S2x4x2048x2048, .f32⟩
  | .hbm, ⟨53, _⟩ => ⟨S2x4x64x2048, .f32⟩
  | .hbm, ⟨54, _⟩ => ⟨S2x2048x4x64, .f32⟩
  | .hbm, ⟨55, _⟩ => ⟨S2x2048x256, .f32⟩
  | .hbm, ⟨56, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Base.lean ====
/-
The windowed-attention kernel's devices, buffers and cells: neighbours on the line of eight devices, the two
halves of a halo buffer, the semaphores the body's slices name, and what the body's conditions decide.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's resource algebra beside the staging library's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

/-- The next device, cyclically (the exchange uses it only where `c < 7`). -/
def nxt (c : Dev nD) : Dev nD := ⟨(c.val + 1) % 8, Nat.mod_lt _ (by decide)⟩
/-- The previous device, cyclically (used only where `0 < c`). -/
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide

/-- Device `c` has a left neighbour. -/
abbrev HasL (c : Dev nD) : Prop := 0 < c.val
/-- Device `c` has a right neighbour. -/
abbrev HasR (c : Dev nD) : Prop := c.val < 7

theorem hasL_nxt (c : Dev nD) (h : HasR c) : HasL (nxt c) := by revert c; decide
theorem hasR_prv (c : Dev nD) (h : HasL c) : HasR (prv c) := by revert c; decide
theorem hasR_of_hasL_nxt (c : Dev nD) (h : HasL (nxt c)) : HasR c := by revert c; decide
theorem hasL_of_hasR_prv (c : Dev nD) (h : HasR (prv c)) : HasL c := by revert c; decide

/-! ## The body's device numbers and conditions -/

theorem dev1_eq (c : Dev nD) (h : k0_cond1 c = 1#1) : (⟨k0_dev1 c, k0_dev1_lt c h⟩ : Dev nD) = prv c := by
  apply Fin.ext; revert c; decide
theorem dev2_eq (c : Dev nD) (h : k0_cond2 c = 1#1) : (⟨k0_dev2 c, k0_dev2_lt c h⟩ : Dev nD) = nxt c := by
  apply Fin.ext; revert c; decide
theorem dev3_eq (c : Dev nD) (h : k0_cond5 c = 1#1) : (⟨k0_dev3 c, k0_dev3_lt c h⟩ : Dev nD) = nxt c := by
  apply Fin.ext; revert c; decide
theorem dev4_eq (c : Dev nD) (h : k0_cond6 c = 1#1) : (⟨k0_dev4 c, k0_dev4_lt c h⟩ : Dev nD) = prv c := by
  apply Fin.ext; revert c; decide
theorem dev5_eq (c : Dev nD) (h : k0_cond7 c = 1#1) : (⟨k0_dev5 c, k0_dev5_lt c h⟩ : Dev nD) = nxt c := by
  apply Fin.ext; revert c; decide
theorem dev6_eq (c : Dev nD) (h : k0_cond8 c = 1#1) : (⟨k0_dev6 c, k0_dev6_lt c h⟩ : Dev nD) = prv c := by
  apply Fin.ext; revert c; decide

theorem cond1_iff (c : Dev nD) : k0_cond1 c = 1#1 ↔ HasL c := by revert c; decide
theorem cond2_iff (c : Dev nD) : k0_cond2 c = 1#1 ↔ HasR c := by revert c; decide
theorem cond5_iff (c : Dev nD) : k0_cond5 c = 1#1 ↔ HasR c := by revert c; decide
theorem cond6_iff (c : Dev nD) : k0_cond6 c = 1#1 ↔ HasL c := by revert c; decide
theorem cond7_iff (c : Dev nD) : k0_cond7 c = 1#1 ↔ HasR c := by revert c; decide
theorem cond8_iff (c : Dev nD) : k0_cond8 c = 1#1 ↔ HasL c := by revert c; decide

/-- The device's number as the body computes it. -/
abbrev wd (c : Dev nD) : BitVec 32 := Scalar.remsi (Scalar.divsi (Dev.word c) 1#32) 8#32

theorem isFirst_iff (c : Dev nD) : Scalar.cmpi .ne (Scalar.extui (Scalar.cmpi .eq (wd c) 0#32) : BitVec 32) 0#32 = 1#1 ↔ ¬ HasL c := by
  revert c; decide
theorem isLast_iff (c : Dev nD) : Scalar.cmpi .ne (Scalar.extui (Scalar.cmpi .eq (wd c) 7#32) : BitVec 32) 0#32 = 1#1 ↔ ¬ HasR c := by
  revert c; decide
theorem hasL_iff (c : Dev nD) : Scalar.cmpi .ne (Scalar.extui (Scalar.cmpi .sgt (wd c) 0#32) : BitVec 32) 0#32 = 1#1 ↔ HasL c := by
  revert c; decide
theorem hasR_iff (c : Dev nD) : Scalar.cmpi .ne (Scalar.extui (Scalar.cmpi .slt (wd c) 7#32) : BitVec 32) 0#32 = 1#1 ↔ HasR c := by
  revert c; decide
/-- The barrier's amount: one unit for each neighbour there is. -/
theorem amt_eq (c : Dev nD) : (k0_amt1 c).toNat = (if HasL c then 1 else 0) + (if HasR c then 1 else 0) := by revert c; decide

/-! ## Semaphores and cells -/

/-- The exchange's thirteen DMA semaphores: 0–4 the local loads, 5–8 the sends, 9–12 the receives. -/
def dsem (k : Fin 13) : DmaSem sig := ⟨k.val + 1, by have := k.isLt; show k.val + 1 < 14; omega⟩

theorem ld_sem0 : ((cc0_scratch7.slice (Rect.unit (s := S5) ![0] S1.size inb_S5_S1_0)).squeeze S_ squeezes_S1_S_).sem = dsem 0 := rfl
theorem ld_sem1 : ((cc0_scratch7.slice (Rect.unit (s := S5) ![1] S1.size inb_S5_S1_1)).squeeze S_ squeezes_S1_S_).sem = dsem 1 := rfl
theorem ld_sem2 : ((cc0_scratch7.slice (Rect.unit (s := S5) ![2] S1.size inb_S5_S1_2)).squeeze S_ squeezes_S1_S_).sem = dsem 2 := rfl
theorem ld_sem3 : ((cc0_scratch7.slice (Rect.unit (s := S5) ![3] S1.size inb_S5_S1_3)).squeeze S_ squeezes_S1_S_).sem = dsem 3 := rfl
theorem ld_sem4 : ((cc0_scratch7.slice (Rect.unit (s := S5) ![4] S1.size inb_S5_S1_4)).squeeze S_ squeezes_S1_S_).sem = dsem 4 := rfl
theorem sd_sem0 : ((cc0_scratch8.slice (Rect.unit (s := S4) ![0] S1.size inb_S4_S1_0)).squeeze S_ squeezes_S1_S_).sem = dsem 5 := rfl
theorem sd_sem1 : ((cc0_scratch8.slice (Rect.unit (s := S4) ![1] S1.size inb_S4_S1_1)).squeeze S_ squeezes_S1_S_).sem = dsem 6 := rfl
theorem sd_sem2 : ((cc0_scratch8.slice (Rect.unit (s := S4) ![2] S1.size inb_S4_S1_2)).squeeze S_ squeezes_S1_S_).sem = dsem 7 := rfl
theorem sd_sem3 : ((cc0_scratch8.slice (Rect.unit (s := S4) ![3] S1.size inb_S4_S1_3)).squeeze S_ squeezes_S1_S_).sem = dsem 8 := rfl
theorem rv_sem0 : ((cc0_scratch9.slice (Rect.unit (s := S4) ![0] S1.size inb_S4_S1_0)).squeeze S_ squeezes_S1_S_).sem = dsem 9 := rfl
theorem rv_sem1 : ((cc0_scratch9.slice (Rect.unit (s := S4) ![1] S1.size inb_S4_S1_1)).squeeze S_ squeezes_S1_S_).sem = dsem 10 := rfl
theorem rv_sem2 : ((cc0_scratch9.slice (Rect.unit (s := S4) ![2] S1.size inb_S4_S1_2)).squeeze S_ squeezes_S1_S_).sem = dsem 11 := rfl
theorem rv_sem3 : ((cc0_scratch9.slice (Rect.unit (s := S4) ![3] S1.size inb_S4_S1_3)).squeeze S_ squeezes_S1_S_).sem = dsem 12 := rfl

/-- Device `c`'s barrier cell, and its cell of DMA semaphore `k`. -/
abbrev barCell (c : Dev nD) : GSem nD τ sig := ((c : Thread nD τ), .reg barrier0)
abbrev dCell (c : Dev nD) (k : Fin 13) : GSem nD τ sig := ((c : Thread nD τ), .dma (dsem k))

/-! ## Buffers -/

/-- Rows 0–127 and rows 128–255 of a tile `[2, 4, 256, 64]`. -/
abbrev rA : Rect S2x4x256x64 := Rect.unit (s := S2x4x256x64) ![0, 0, 0, 0] S2x4x128x64.size inb_S2x4x256x64_S2x4x128x64_0_0_0_0
abbrev rB : Rect S2x4x256x64 := Rect.unit (s := S2x4x256x64) ![0, 0, 128, 0] S2x4x128x64.size inb_S2x4x256x64_S2x4x128x64_0_0_128_0
abbrev kM : Memref sig .tc .vmem S2x4x256x64 .bf16 := Memref.whole cc0_scratch2
abbrev vM : Memref sig .tc .vmem S2x4x256x64 .bf16 := Memref.whole cc0_scratch3
abbrev khM : Memref sig .tc .vmem S2x4x256x64 .bf16 := Memref.whole cc0_scratch5
abbrev vhM : Memref sig .tc .vmem S2x4x256x64 .bf16 := Memref.whole cc0_scratch6
/-- A tile's first and second half, as the body slices it. -/
abbrev hA (M : Memref sig .tc .vmem S2x4x256x64 .bf16) : Memref sig .tc .vmem S2x4x128x64 .bf16 := M.slice rA (fun _ => rfl)
abbrev hB (M : Memref sig .tc .vmem S2x4x256x64 .bf16) : Memref sig .tc .vmem S2x4x128x64 .bf16 := M.slice rB (fun _ => rfl)

/-- A memref's elements on device `c`, at share `q` and contents `f`. -/
abbrev mpt {sp : Space} {s : Shape} {e : EltTy} (c : Dev nD) (M : Memref sig .tc sp s e) (q : PosShare TreeShare) (f : Buf (Elt F) (M.view.loc (c : Thread nD τ))) : sProp 𝕄 :=
  M.view.loc (c : Thread nD τ) ↦[M.view.set]{q} f

theorem rect_disjoint : Disjoint rA.set rB.set := by
  rw [Finset.disjoint_left]; intro i hi hj
  have h1 := (Rect.mem_set_unit.mp hi) 2
  have h2 := (Rect.mem_set_unit.mp hj) 2
  have h3 : (i 2 : ℕ) < 0 + 128 := h1.2
  have h4 : 128 ≤ (i 2 : ℕ) := h2.1
  omega
theorem rect_union : rA.set ∪ rB.set = Finset.univ := by
  ext i; simp only [Finset.mem_union, Finset.mem_univ, iff_true]
  rw [Rect.mem_set_unit, Rect.mem_set_unit]
  have h0 : (i 0 : ℕ) < 2 := (i 0).isLt
  have h1 : (i 1 : ℕ) < 4 := (i 1).isLt
  have h2 : (i 2 : ℕ) < 256 := (i 2).isLt
  have h3 : (i 3 : ℕ) < 64 := (i 3).isLt
  by_cases h : (i 2 : ℕ) < 128
  · left; intro a; fin_cases a
    · exact ⟨Nat.zero_le _, by show (i 0 : ℕ) < 0 + 2; omega⟩
    · exact ⟨Nat.zero_le _, by show (i 1 : ℕ) < 0 + 4; omega⟩
    · exact ⟨Nat.zero_le _, by show (i 2 : ℕ) < 0 + 128; omega⟩
    · exact ⟨Nat.zero_le _, by show (i 3 : ℕ) < 0 + 64; omega⟩
  · right; intro a; fin_cases a
    · exact ⟨Nat.zero_le _, by show (i 0 : ℕ) < 0 + 2; omega⟩
    · exact ⟨Nat.zero_le _, by show (i 1 : ℕ) < 0 + 4; omega⟩
    · exact ⟨by show 128 ≤ (i 2 : ℕ); omega, by show (i 2 : ℕ) < 128 + 128; omega⟩
    · exact ⟨Nat.zero_le _, by show (i 3 : ℕ) < 0 + 64; omega⟩

theorem half_set (M : Memref sig .tc .vmem S2x4x256x64 .bf16) :
    Disjoint (hA M).view.set (hB M).view.set ∧ (hA M).view.set ∪ (hB M).view.set = M.view.set := by
  have hA' : (hA M).view.set = rA.set.map M.view.emb := View.set_slice M.view rA
  have hB' : (hB M).view.set = rB.set.map M.view.emb := View.set_slice M.view rB
  rw [hA', hB']
  refine ⟨(Finset.disjoint_map _).mpr rect_disjoint, ?_⟩
  rw [← Finset.map_union, rect_union]; rfl

/-- A tile is its two halves. -/
theorem halves (c : Dev nD) (M : Memref sig .tc .vmem S2x4x256x64 .bf16) (q : PosShare TreeShare) (f : Buf (Elt F) (M.view.loc (c : Thread nD τ))) :
    (mpt c M q f : sProp 𝕄) ⊣⊢ iprop(mpt c (hA M) q f ∗ mpt c (hB M) q f) := by
  have h := half_set M
  unfold mpt
  rw [← h.2]
  exact pointsTo_union h.1

/-- Two halves at their own contents are a tile whose halves read as they did. -/
theorem join_halves (c : Dev nD) (M : Memref sig .tc .vmem S2x4x256x64 .bf16) (q : PosShare TreeShare)
    (f g : Buf (Elt F) (M.view.loc (c : Thread nD τ))) :
    iprop(mpt c (hA M) q f ∗ mpt c (hB M) q g) ⊢ (iprop(∃ k : Buf (Elt F) (M.view.loc (c : Thread nD τ)),
      ⌜(hA M).view.read (Elt F) k = (hA M).view.read (Elt F) f ∧ (hB M).view.read (Elt F) k = (hB M).view.read (Elt F) g⌝ ∗ mpt c M q k) : sProp 𝕄) := by
  have h := half_set M
  iintro ⟨HA, HB⟩
  iexists ((hB M).view.set.piecewise g f)
  isplitr
  · ipureintro
    refine ⟨View.read_congr fun i hi => ?_, View.read_congr fun i hi => ?_⟩
    · exact Finset.piecewise_eq_of_notMem _ _ _ (Finset.disjoint_left.mp h.1 hi)
    · exact Finset.piecewise_eq_of_mem _ _ _ hi
  · unfold mpt
    rw [← h.2]
    iapply (pointsTo_join h.1)
    isplitl [HA] <;> iassumption

end Cert.KernelIdeal.Win

end
-- ==== Proof.Sched.lean ====
/-
The exchange's protocol: which cell is paid by whom, how much, and what comes with the payment.

Every device has a barrier cell and thirteen DMA cells. The barrier cell of `c` is paid one unit by each neighbour
there is, which hands over the half of its halo buffers `c` will write. A local load's cell is paid by the load; a
send's cell by the send, with the lent half share of the rows sent; a receive's cell by the neighbour's send, with the
half of the halo buffer now holding the neighbour's rows. Cells of a neighbour that is not there have no duty.
-/
module

public import proofs.«01_k».proof.Proof.Base

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the arrays in HBM hold on each device when the kernel starts. -/
abbrev Data (F : FTy → Type) : Type := (c : Dev nD) → (b : Ref sig .tc) → Buf (Elt F) ((c : Thread nD τ).loc b)

variable (D : Data F)

abbrev xM : Memref sig .tc .vmem S2x256x512 .f32 := Memref.whole cc0_scratch0
abbrev wqM : Memref sig .tc .vmem S4x512x64 .bf16 := Memref.whole cc0_scratch1
abbrev woM : Memref sig .tc .vmem S256x512 .bf16 := Memref.whole cc0_scratch4
abbrev oM : Memref sig .tc .vmem S2x256x512 .f32 := Memref.whole cc0_stg0_0
abbrev hxM : Memref sig .tc .hbm S2x256x512 .f32 := Memref.whole main_arg0
abbrev hqM : Memref sig .tc .hbm S4x512x64 .bf16 := Memref.whole main_v9
abbrev hkM : Memref sig .tc .hbm S2x4x256x64 .bf16 := Memref.whole main_v2
abbrev hvM : Memref sig .tc .hbm S2x4x256x64 .bf16 := Memref.whole main_v4
abbrev hoM : Memref sig .tc .hbm S256x512 .bf16 := Memref.whole main_v10

/-- An amount on one cell if `p`, nothing otherwise. -/
def tG (p : Prop) [Decidable p] (g : GSem nD τ sig) (n : ℕ) : CellTallies nD τ sig Unit := if p then tallyAt g () n else 0

/-- A resource held if `p`. -/
def Gd (p : Prop) [Decidable p] (P : sProp 𝕄) : sProp 𝕄 := if p then P else iprop(emp)

omit [FloatOps F] in
theorem Gd_pos {p : Prop} [Decidable p] (h : p) (P : sProp 𝕄) : Gd p P = P := if_pos h
omit [FloatOps F] in
theorem Gd_neg {p : Prop} [Decidable p] (h : ¬ p) (P : sProp 𝕄) : Gd p P = iprop(emp) := if_neg h

/-! ## Amounts -/

/-- The credit of one half tile. -/
abbrev N : ℕ := (hA khM).view.dmaCredit
theorem N_pos : 0 < N := View.dmaCredit_pos _ (by decide)

def amt (k : Fin 13) : ℕ :=
  match k.val with
  | 0 => kM.view.dmaCredit
  | 1 => vM.view.dmaCredit
  | 2 => xM.view.dmaCredit
  | 3 => wqM.view.dmaCredit
  | 4 => woM.view.dmaCredit
  | _ => N

theorem amt_pos (k : Fin 13) : 0 < amt k := by
  unfold amt
  split
  · exact View.dmaCredit_pos _ (by decide)
  · exact View.dmaCredit_pos _ (by decide)
  · exact View.dmaCredit_pos _ (by decide)
  · exact View.dmaCredit_pos _ (by decide)
  · exact View.dmaCredit_pos _ (by decide)
  · exact N_pos

/-! ## Payloads -/

/-- Device `c`'s DMA cell `k` is used: a load always, a send or a receive if that neighbour is there. -/
def used (c : Dev nD) (k : Fin 13) : Prop :=
  match k.val with
  | 5 | 7 | 10 | 12 => HasR c
  | 6 | 8 | 9 | 11 => HasL c
  | _ => True
instance (c : Dev nD) (k : Fin 13) : Decidable (used c k) := by unfold used; split <;> infer_instance

/-- Device `c` comes to hold half `H` of one of its halo buffers, reading as `w`. -/
def got (c : Dev nD) (H : Memref sig .tc .vmem S2x4x128x64 .bf16) (w : S2x4x128x64.Idx → Elt F .bf16) : sProp 𝕄 :=
  iprop(∃ f : Buf (Elt F) (H.view.loc (c : Thread nD τ)), ⌜H.view.read (Elt F) f = w⌝ ∗ mpt c H fullShare f)

/-- Device `c` holds half `H` of one of its halo buffers. -/
def slot (c : Dev nD) (H : Memref sig .tc .vmem S2x4x128x64 .bf16) : sProp 𝕄 :=
  iprop(∃ f : Buf (Elt F) (H.view.loc (c : Thread nD τ)), mpt c H fullShare f)

def dpay (c : Dev nD) (k : Fin 13) : sProp 𝕄 :=
  match k.val with
  | 0 => iprop(mpt c kM fullShare (D c main_v2) ∗ mpt c hkM fullShare (D c main_v2))
  | 1 => iprop(mpt c vM fullShare (D c main_v4) ∗ mpt c hvM fullShare (D c main_v4))
  | 2 => iprop(mpt c xM fullShare (D c main_arg0) ∗ mpt c hxM fullShare (D c main_arg0))
  | 3 => iprop(mpt c wqM fullShare (D c main_v9) ∗ mpt c hqM fullShare (D c main_v9))
  | 4 => iprop(mpt c woM fullShare (D c main_v10) ∗ mpt c hoM fullShare (D c main_v10))
  | 5 => mpt c (hB kM) fullShare.right (D c main_v2)
  | 6 => mpt c (hA kM) fullShare.right (D c main_v2)
  | 7 => mpt c (hB vM) fullShare.right (D c main_v4)
  | 8 => mpt c (hA vM) fullShare.right (D c main_v4)
  | 9 => got c (hA khM) ((hB kM).view.read (Elt F) (D (prv c) main_v2))
  | 10 => got c (hB khM) ((hA kM).view.read (Elt F) (D (nxt c) main_v2))
  | 11 => got c (hA vhM) ((hB vM).view.read (Elt F) (D (prv c) main_v4))
  | 12 => got c (hB vhM) ((hA vM).view.read (Elt F) (D (nxt c) main_v4))
  | _ => iprop(emp)

/-- What a neighbour hands over with its barrier unit: `true` the right one (the first halves), `false` the left one. -/
def barPay (c : Dev nD) : Bool → sProp 𝕄
  | true => iprop(slot (nxt c) (hA khM) ∗ slot (nxt c) (hA vhM) ∗ reached ER (dCell (nxt c) 9) 0 ∗ reached ER (dCell (nxt c) 11) 0)
  | false => iprop(slot (prv c) (hB khM) ∗ slot (prv c) (hB vhM) ∗ reached ER (dCell (prv c) 10) 0 ∗ reached ER (dCell (prv c) 12) 0)

/-- The exchange's number of a DMA semaphore. -/
def knum (s : DmaSem sig) : Option (Fin 13) := if h : 1 ≤ s.val then some ⟨s.val - 1, by have : s.val < 14 := s.isLt; omega⟩ else none
theorem knum_dsem (k : Fin 13) : knum (dsem k) = some k := by revert k; decide
theorem dsem_injective : Function.Injective dsem := by decide

def duty (c : Dev nD) : SemLoc sig → Finset Bool
  | .reg _ => (if HasL c then {false} else ∅) ∪ (if HasR c then {true} else ∅)
  | .dma s => match knum s with
    | some k => if used c k then {false} else ∅
    | none => ∅

def sched : Rounds.Schedule (GSem nD τ sig) Bool 𝕄 where
  duties g r := if r = 0 ∧ g.1.2 = .tc then duty g.1.1 g.2 else ∅
  unitless _ := False
  amount g _ _ := match g.2 with
    | .reg _ => 1
    | .dma s => match knum s with
      | some k => amt k
      | none => 1
  payload g _ d := match g.2 with
    | .reg _ => barPay g.1.1 d
    | .dma s => match knum s with
      | some k => dpay D g.1.1 k
      | none => iprop(emp)
  amount_pos g _ _ _ := by
    rcases g.2 with s | s
    · exact Nat.one_pos
    · dsimp only; rcases knum s with _ | k
      · exact Nat.one_pos
      · exact amt_pos k

omit [FloatOps F] in
instance got_storable (c : Dev nD) (H) (w) : BI.Storable (upEmb : UEmb _ 𝕄) (got (F := F) c H w) := by unfold got; infer_instance
omit [FloatOps F] in
instance slot_storable (c : Dev nD) (H) : BI.Storable (upEmb : UEmb _ 𝕄) (slot (F := F) c H) := by unfold slot; infer_instance
instance sched_storable (g : GSem nD τ sig) (r : ℕ) (d : Bool) : BI.Storable (upEmb : UEmb _ 𝕄) ((sched D).payload g r d) := by
  dsimp only [sched]
  rcases g.2 with s | s
  · rcases d <;> (dsimp only [barPay]; infer_instance)
  · dsimp only; rcases knum s with _ | k
    · dsimp only; infer_instance
    · dsimp only; unfold dpay; split <;> infer_instance

theorem duties_bar (c : Dev nD) : (sched D).duties (barCell c) 0 = (if HasL c then {false} else ∅) ∪ (if HasR c then {true} else ∅) := by
  dsimp only [sched]; exact if_pos ⟨rfl, rfl⟩
theorem duties_dma (c : Dev nD) (k : Fin 13) : (sched D).duties (dCell c k) 0 = if used c k then {false} else ∅ := by
  dsimp only [sched]; rw [if_pos ⟨rfl, rfl⟩]; dsimp only [duty]; rw [knum_dsem]
theorem duties_later (g : GSem nD τ sig) : ∀ r, 1 ≤ r → (sched D).duties g r = ∅ := fun r hr => by
  dsimp only [sched]; rw [if_neg (fun h => by omega)]
theorem amount_bar (c : Dev nD) (d : Bool) : (sched D).amount (barCell c) 0 d = 1 := rfl
theorem amount_dma (c : Dev nD) (k : Fin 13) (d : Bool) : (sched D).amount (dCell c k) 0 d = amt k := by
  dsimp only [sched]; rw [knum_dsem]
theorem payload_bar (c : Dev nD) (d : Bool) : (sched D).payload (barCell c) 0 d = barPay c d := rfl
theorem payload_dma (c : Dev nD) (k : Fin 13) (d : Bool) : (sched D).payload (dCell c k) 0 d = dpay D c k := by
  dsimp only [sched]; rw [knum_dsem]

theorem expect_bar (c : Dev nD) : (sched D).expect (barCell c) 0 = (if HasL c then 1 else 0) + (if HasR c then 1 else 0) := by
  unfold Schedule.expect Schedule.amountOf; rw [duties_bar]
  by_cases hL : HasL c <;> by_cases hR : HasR c <;> simp [hL, hR, amount_bar]
theorem expect_dma (c : Dev nD) (k : Fin 13) (h : used c k) : (sched D).expect (dCell c k) 0 = amt k := by
  unfold Schedule.expect Schedule.amountOf; rw [duties_dma, if_pos h, Finset.sum_singleton, amount_dma]

theorem rest_dma (c : Dev nD) (k : Fin 13) (h : used c k) :
    bigSep ((sched D).duties (dCell c k) 0 \ ∅) (fun d => (sched D).payload (dCell c k) 0 d) = dpay D c k := by
  rw [Finset.sdiff_empty, duties_dma, if_pos h, bigSep_singleton, payload_dma]
theorem rest_bar (c : Dev nD) :
    bigSep ((sched D).duties (barCell c) 0 \ ∅) (fun d => (sched D).payload (barCell c) 0 d)
      = iprop(Gd (HasL c) (barPay c false) ∗ Gd (HasR c) (barPay c true)) := by
  rw [Finset.sdiff_empty, duties_bar]
  simp only [payload_bar]
  by_cases hL : HasL c <;> by_cases hR : HasR c
  · rw [if_pos hL, if_pos hR, Gd_pos hL, Gd_pos hR]
    rw [show ({false} ∪ {true} : Finset Bool) = {false, true} from rfl, bigSep_insert (by decide), bigSep_singleton]
    rfl
  · rw [if_pos hL, if_neg hR, Gd_pos hL, Gd_neg hR, Finset.union_empty, bigSep_singleton]
    exact (equiv_iff.mp BI.sep_emp).symm
  · rw [if_neg hL, if_pos hR, Gd_neg hL, Gd_pos hR, Finset.empty_union, bigSep_singleton]
    exact (equiv_iff.mp BI.emp_sep).symm
  · exact absurd (show HasL c ∨ HasR c by revert c; decide) (by rintro (h | h) <;> contradiction)

/-! ## What each device owes at launch, and the levels -/

/-- The neighbours' receive credits, in the order the sends pay them (the last paid first). -/
def oLv (c : Dev nD) : CellTallies nD τ sig Unit := tG (HasL c) (dCell (prv c) 12) N
def oRv (c : Dev nD) : CellTallies nD τ sig Unit := oLv c + tG (HasR c) (dCell (nxt c) 11) N
def oLk (c : Dev nD) : CellTallies nD τ sig Unit := oRv c + tG (HasL c) (dCell (prv c) 10) N
def oRk (c : Dev nD) : CellTallies nD τ sig Unit := oLk c + tG (HasR c) (dCell (nxt c) 9) N
/-- And the neighbours' barrier units. -/
def oBr (c : Dev nD) : CellTallies nD τ sig Unit := oRk c + tG (HasR c) (barCell (nxt c)) 1
def O₀ (c : Dev nD) : CellTallies nD τ sig Unit := oBr c + tG (HasL c) (barCell (prv c)) 1

def L (g : GSem nD τ sig) : Finset Unit := if g.1.2 = .tc then {()} else ∅
/-- Receive cells at 2, barrier cells at 1, the rest at 0. -/
def lv (g : GSem nD τ sig) (_ : Unit) : ℕ := match g.2 with
  | .reg _ => 1
  | .dma s => if 10 ≤ s.val then 2 else 0
theorem L_of_ne (g : GSem nD τ sig) (h : g.1.2 ≠ .tc) : L g = ∅ := if_neg h
theorem L_tc (c : Dev nD) (sm : SemLoc sig) : L ((c : Thread nD τ), sm) = {()} := if_pos rfl

/-- A cell owed to after the barrier units are paid is a receive cell. -/
theorem oRk_cell (c : Dev nD) (g : GSem nD τ sig) (u : Unit) (h : 0 < oRk c g u) : ∃ c' k, 9 ≤ k.val ∧ g = dCell c' k := by
  unfold oRk oLk oRv oLv tG at h
  by_contra hn
  push Not at hn
  have h9 : g ≠ dCell (nxt c) 9 := hn _ 9 (by decide)
  have h10 : g ≠ dCell (prv c) 10 := hn _ 10 (by decide)
  have h11 : g ≠ dCell (nxt c) 11 := hn _ 11 (by decide)
  have h12 : g ≠ dCell (prv c) 12 := hn _ 12 (by decide)
  revert h
  rw [imp_false, Nat.not_lt, Nat.le_zero]
  by_cases hL : HasL c <;> by_cases hR : HasR c <;> simp [hL, hR, tallyAt_apply, h9, h10, h11, h12]

theorem lv_recv (c : Dev nD) (k : Fin 13) (h : 9 ≤ k.val) (u : Unit) : lv (dCell c k) u = 2 := by
  show (if 10 ≤ (dsem k).val then 2 else 0) = 2
  exact if_pos (by show 10 ≤ k.val + 1; omega)

/-- While it owes receive credits only, a device may wait on a cell below them. -/
theorem mayWait_low (c : Dev nD) (sm : SemLoc sig) (hs : lv ((c : Thread nD τ), sm) () ≤ 1) :
    (levAts L lv : sProp 𝕄) ⊢ MayWait (c : Thread nD τ) sm () (oRk c) :=
  MayOwe.of_cut (L := L) (lev := lv) 1 (fun p hp => by rw [Finset.mem_singleton.mp hp, L_tc]; exact Finset.mem_singleton_self _)
    (fun g u hg => by obtain ⟨c', k, -, rfl⟩ := oRk_cell c g u hg; rw [L_tc]; exact Finset.mem_singleton_self _)
    (fun p hp => by rw [Finset.mem_singleton.mp hp]; exact hs)
    (fun g u hg => by obtain ⟨c', k, hk, rfl⟩ := oRk_cell c g u hg; rw [lv_recv c' k hk]; decide)

end Cert.KernelIdeal.Win

end
-- ==== Proof.Steps.lean ====
/-
One step of the body at a time: a local load and its wait, the barrier's signals and wait, a send, and the waits for
a send or a receive — each conditional on a neighbour being there, with the resources it needs held under the same
condition, so that a body's run need not split on the device.
-/
module

public import proofs.«01_k».proof.Proof.Sched

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

abbrev 𝒱₀ : Variants := Variants.none

/-- What device `c` owes, whatever it has waited for. -/
def ow (c : Dev nD) (O : CellTallies nD τ sig Unit) : sProp 𝕄 := iprop(∃ W, owes (c : Thread nD τ) O W)

/-- The invariants of every device's cells, at the names `K`. -/
def invs (K : GSem nD τ sig → ℕ) : sProp 𝕄 :=
  iprop(bigSep Finset.univ (fun c : Dev nD => cellInv ER (sched D) (K (barCell c)) (barCell c))
    ∗ bigSep Finset.univ (fun p : Dev nD × Fin 13 => cellInv ER (sched D) (K (dCell p.1 p.2)) (dCell p.1 p.2)))
instance invs_persistent (K : GSem nD τ sig → ℕ) : BI.Persistent (invs D K) := by unfold invs; infer_instance

/-- A member of a big separating conjunction of persistent facts. -/
theorem pers_mem {I : Type} [DecidableEq I] {S : Finset I} {Φ : I → sProp 𝕄} [∀ i, BI.Persistent (Φ i)] {x : I} (hx : x ∈ S) :
    bigSep S Φ ⊢ Φ x := by
  rw [bigSep_erase hx]
  show iprop(Φ x ∗ bigSep _ Φ) ⊢ Φ x
  iintro ⟨Hx, -⟩
  iexact Hx

theorem invs_bar (K : GSem nD τ sig → ℕ) (c : Dev nD) : invs D K ⊢ cellInv ER (sched D) (K (barCell c)) (barCell c) := by
  unfold invs
  iintro ⟨H, -⟩
  iapply (pers_mem (Φ := fun c : Dev nD => cellInv ER (sched D) (K (barCell c)) (barCell c)) (Finset.mem_univ c)); iexact H
theorem invs_dma (K : GSem nD τ sig → ℕ) (c : Dev nD) (k : Fin 13) : invs D K ⊢ cellInv ER (sched D) (K (dCell c k)) (dCell c k) := by
  unfold invs
  iintro ⟨-, H⟩
  iapply (pers_mem (Φ := fun p : Dev nD × Fin 13 => cellInv ER (sched D) (K (dCell p.1 p.2)) (dCell p.1 p.2)) (Finset.mem_univ (c, k))); iexact H

/-- Cell `g` has no duty left to be paid. -/
def over (g : GSem nD τ sig) : sProp 𝕄 := iprop(∃ R, ⌜∀ r, R ≤ r → (sched D).duties g r = ∅⌝ ∗ atPos ER g R ∅ 0)

/-- A cell with no duty left closes, its counter at zero. -/
theorem over_close (K : GSem nD τ sig → ℕ) (g : GSem nD τ sig) :
    iprop(cellInv ER (sched D) (K g) g ∗ over D g) ⊢ (|={Set.univ}=> semVal g 0 : sProp 𝕄) := by
  unfold over
  iintro ⟨#HI, ⟨%R, %hR, Hat⟩⟩
  iapply (Rounds.cell_close ER (sched D) (Set.mem_univ (K g)) id hR)
  isplitr; · iexact HI
  iexact Hat

section Steps

variable (K : GSem nD τ sig → ℕ) (c : Dev nD) {α : Type}

/-- Device `c`'s core runs `X` to `Q`. -/
abbrev WP (X : Prog (TpuEff nD τ sig (Elt F) Λ₀ .tc) α) (Q : α → sProp 𝕄) : sProp 𝕄 :=
  wp frame (wpE defs₀ 𝒱₀ (c : Thread nD τ) none) Set.univ X Q

/-- The wait for DMA cell `k`, paid or about to be, where the device may wait. -/
theorem step_wait (k : Fin 13) (hu : used c k) (O : CellTallies nD τ sig Unit)
    (hO : (levAts L lv : sProp 𝕄) ⊢ MayWait (c : Thread nD τ) (.dma (dsem k)) () O)
    {sp sp' : Space} {s s' : Shape} {e e' : EltTy} {src : Memref sig .tc sp' s' e'} {dst : Memref sig .tc sp s e}
    {h1 : src.view.WordExact} {h2 : dst.view.WordExact} (hN : dst.view.dmaCredit = amt k) {X : Prog (TpuEff nD τ sig (Elt F) Λ₀ .tc) α} {Q : α → sProp 𝕄} :
    iprop(invs D K ∗ levAts L lv ∗ cred (tallyAt (dCell c k) () (amt k)) ∗ ow c O ∗ atPos ER (dCell c k) 0 ∅ 0
        ∗ (ow c O -∗ over D (dCell c k) -∗ dpay D c k -∗ WP c X Q))
      ⊢ WP c (.op (.waitDma2 (dsem k) src dst h1 h2) fun _ => X) Q := by
  unfold ow
  iintro ⟨#HI, #Hlev, Hc, ⟨%W, HO⟩, Hat, Hk⟩
  iapply (Rounds.wp_wait_rest_token 𝒱₀ ER (sched D) (c : Thread nD τ) none (κ := K (dCell c k))
      (wpE_waitDma2_eq 𝒱₀ (c : Thread nD τ) none Set.univ) (Set.mem_univ _) () (O := O) (W := W) (R := 0) (m := 0) (T := ∅)
      ((Nat.zero_add _).trans (hN.trans (expect_dma D c k hu).symm))) $$ [Hc HO Hat]
  · isplitr; · iapply (invs_dma D K c k); iexact HI
    isplitl [Hc]; · rw [hN]; iexact Hc
    isplitl [HO]; · iexact HO
    isplitr; · iapply hO; iexact Hlev
    iexact Hat
  iintro ⟨HO, Hat, -, Hpay⟩
  ihave Hp := (Entails.of_eq (rest_dma D c k hu)) $$ Hpay
  iapply Hk $$ [HO] [Hat]
  · iexists _; iexact HO
  · unfold over; iexists (0 + 1); isplitr; · ipureintro; exact duties_later D _
    iexact Hat
  iexact Hp

/-- The same under a condition the program tests. -/
theorem step_wait_if (k : Fin 13) {p : Prop} [Decidable p] (hp : p ↔ used c k)
    {sp sp' : Space} {s s' : Shape} {e e' : EltTy} {src : Memref sig .tc sp' s' e'} {dst : Memref sig .tc sp s e}
    {h1 : src.view.WordExact} {h2 : dst.view.WordExact} (hN : dst.view.dmaCredit = amt k) {X : Prog (TpuEff nD τ sig (Elt F) Λ₀ .tc) α} {Q : α → sProp 𝕄} :
    iprop(invs D K ∗ levAts L lv ∗ Gd (used c k) (cred (tallyAt (dCell c k) () (amt k))) ∗ ow c 0 ∗ atPos ER (dCell c k) 0 ∅ 0
        ∗ (ow c 0 -∗ over D (dCell c k) -∗ Gd (used c k) (dpay D c k) -∗ WP c X Q))
      ⊢ WP c (if h : p then .op (.waitDma2 (dsem k) src dst h1 h2) (fun _ => X) else X) Q := by
  by_cases hu : used c k
  · rw [dif_pos (hp.mpr hu), Gd_pos hu, Gd_pos hu]
    exact step_wait D K c k hu 0 (by rw [MayWait_zero]; iintro -; iempintro) hN
  · rw [dif_neg (fun h => hu (hp.mp h)), Gd_neg hu, Gd_neg hu]
    iintro ⟨-, -, -, HO, Hat, Hk⟩
    iapply Hk $$ HO [Hat]
    · unfold over; iexists 0; isplitr
      · ipureintro; intro r _
        rcases Nat.eq_zero_or_pos r with rfl | hr
        · rw [duties_dma, if_neg hu]
        · exact duties_later D _ r hr
      iexact Hat
    iempintro

/-- Two waits under one condition. -/
theorem step_wait2_if (k k' : Fin 13) {p : Prop} [Decidable p] (hp : p ↔ used c k) (hp' : p ↔ used c k')
    {sp sp' sq sq' : Space} {s s' t t' : Shape} {e e' f f' : EltTy} {src : Memref sig .tc sp' s' e'} {dst : Memref sig .tc sp s e}
    {src' : Memref sig .tc sq' t' f'} {dst' : Memref sig .tc sq t f}
    {h1 : src.view.WordExact} {h2 : dst.view.WordExact} {h1' : src'.view.WordExact} {h2' : dst'.view.WordExact}
    (hN : dst.view.dmaCredit = amt k) (hN' : dst'.view.dmaCredit = amt k') {X : Prog (TpuEff nD τ sig (Elt F) Λ₀ .tc) α} {Q : α → sProp 𝕄} :
    iprop(invs D K ∗ levAts L lv ∗ Gd (used c k) (cred (tallyAt (dCell c k) () (amt k))) ∗ Gd (used c k') (cred (tallyAt (dCell c k') () (amt k')))
        ∗ ow c 0 ∗ atPos ER (dCell c k) 0 ∅ 0 ∗ atPos ER (dCell c k') 0 ∅ 0
        ∗ (ow c 0 -∗ over D (dCell c k) -∗ over D (dCell c k') -∗ Gd (used c k) (dpay D c k) -∗ Gd (used c k') (dpay D c k') -∗ WP c X Q))
      ⊢ WP c (if h : p then .op (.waitDma2 (dsem k) src dst h1 h2) (fun _ => .op (.waitDma2 (dsem k') src' dst' h1' h2') fun _ => X) else X) Q := by
  by_cases hu : p
  · have h := step_wait_if D K c k' (p := p) hp' (h1 := h1') (h2 := h2') hN' (X := X) (Q := Q)
    rw [dif_pos hu] at h ⊢
    have h' := step_wait_if D K c k (p := p) hp (h1 := h1) (h2 := h2) hN (X := .op (.waitDma2 (dsem k') src' dst' h1' h2') fun _ => X) (Q := Q)
    rw [dif_pos hu] at h'
    iintro ⟨#HI, #Hl, Hc, Hc', HO, Hat, Hat', Hk⟩
    iapply h'
    isplitr; · iexact HI
    isplitr; · iexact Hl
    isplitl [Hc]; · iexact Hc
    isplitl [HO]; · iexact HO
    isplitl [Hat]; · iexact Hat
    iintro HO Hov Hp
    iapply h
    isplitr; · iexact HI
    isplitr; · iexact Hl
    isplitl [Hc']; · iexact Hc'
    isplitl [HO]; · iexact HO
    isplitl [Hat']; · iexact Hat'
    iintro HO Hov' Hp'
    iapply Hk $$ HO Hov Hov' Hp Hp'
  · have h := step_wait_if D K c k' (p := p) hp' (h1 := h1') (h2 := h2') hN' (X := X) (Q := Q)
    rw [dif_neg hu] at h ⊢
    have h' := step_wait_if D K c k (p := p) hp (h1 := h1) (h2 := h2) hN (X := X) (Q := Q)
    rw [dif_neg hu] at h'
    iintro ⟨#HI, #Hl, Hc, Hc', HO, Hat, Hat', Hk⟩
    iapply h'
    isplitr; · iexact HI
    isplitr; · iexact Hl
    isplitl [Hc]; · iexact Hc
    isplitl [HO]; · iexact HO
    isplitl [Hat]; · iexact Hat
    iintro HO Hov Hp
    iapply h
    isplitr; · iexact HI
    isplitr; · iexact Hl
    isplitl [Hc']; · iexact Hc'
    isplitl [HO]; · iexact HO
    isplitl [Hat']; · iexact Hat'
    iintro HO Hov' Hp'
    iapply Hk $$ HO Hov Hov' Hp Hp'

/-- A local load of a whole array on cell `k`. -/
theorem step_copy (k : Fin 13) (hu : used c k) {sp sp' : Space} {s : Shape} {e : EltTy} {src : Memref sig .tc sp s e} {dst : Memref sig .tc sp' s e}
    {hs : src.view.WordExact} {hd : dst.view.WordExact} {hsem : DmaTarget.Typed (nD := nD) (p := (.tc : Proc τ)) sp (.dma (dsem k)) (.here dst)}
    (hN : dst.view.amount (.dma (dsem k)) = amt k) (fs : Buf (Elt F) (src.view.loc (c : Thread nD τ)))
    (hpay : ∀ fd : Buf (Elt F) (dst.view.loc (c : Thread nD τ)),
      iprop(mpt c dst fullShare (dst.view.write (Elt F) fd (src.view.read (Elt F) fs) Finset.univ) ∗ mpt c src fullShare fs) ⊢ dpay D c k)
    {X : Prog (TpuEff nD τ sig (Elt F) Λ₀ .tc) α} {Q : α → sProp 𝕄} :
    iprop(invs D K ∗ mpt c src fullShare fs ∗ (∃ fd, mpt c dst fullShare fd) ∗ dutyTok ER (dCell c k) 0 false ∗ reached ER (dCell c k) 0
        ∗ (cred (tallyAt (dCell c k) () (amt k)) -∗ WP c X Q))
      ⊢ WP c (.op (.enqueueDma src (.here dst) (.dma (dsem k)) hs hd hsem) fun _ => X) Q := by
  iintro ⟨#HI, Hs, ⟨%fd, Hd⟩, Ht, Hr, Hk⟩
  iapply (Rounds.wp_copy_pointsTo 𝒱₀ ER (sched D) (c : Thread nD τ) none (src := src) (dst := dst) (sem := .dma (dsem k)) (q := fullShare)
      (fs := fs) (fd := fd) (r := 0) (d := false) (κ := K (dCell c k))
      (by rw [duties_dma, if_pos hu]; exact Finset.mem_singleton_self _) () (amt k) hN (amount_dma D c k false)
      (by rw [payload_dma]; exact hpay fd)) $$ [Hs Hd Ht Hr]
  · isplitr; · iapply (invs_dma D K c k); iexact HI
    isplitl [Hs]; · iexact Hs
    isplitl [Hd]; · iexact Hd
    isplitl [Ht] <;> iassumption
  iexact Hk

/-- A barrier unit to a neighbour `c'`, if there. -/
theorem step_signal_if (c' : Dev nD) (d : Bool) {p : Prop} [Decidable p] {q : Prop} [Decidable q] (hp : p ↔ q)
    (hd : q → d ∈ (sched D).duties (barCell c') 0) (dv : p → Dev nD) (hdv : ∀ h, dv h = c') (O : CellTallies nD τ sig Unit)
    {X : Prog (TpuEff nD τ sig (Elt F) Λ₀ .tc) α} {Q : α → sProp 𝕄} :
    iprop(invs D K ∗ ow c (O + tG q (barCell c') 1) ∗ Gd q (dutyTok ER (barCell c') 0 d) ∗ Gd q (barPay c' d) ∗ reached ER (barCell c') 0
        ∗ (ow c O -∗ WP c X Q))
      ⊢ WP c (if h : p then .op (.semSignal (dv h : Thread nD τ) barrier0 1) (fun _ => X) else X) Q := by
  by_cases h : q
  · rw [dif_pos (hp.mpr h), hdv, Gd_pos h, Gd_pos h, show tG q (barCell c') 1 = _ from if_pos h]
    unfold ow
    iintro ⟨#HI, ⟨%W, HO⟩, Ht, Hp, #Hr, Hk⟩
    iapply (Rounds.wp_signal 𝒱₀ ER (sched D) (c : Thread nD τ) none (dst := (c' : Thread nD τ)) (sem := barrier0) (r := 0) (d := d) (κ := K (barCell c'))
      (hd h) (amount_bar D c' d) () O rfl) $$ [HO Ht Hp]
    · isplitr; · iapply (invs_bar D K c'); iexact HI
      isplitl [HO]; · iexact HO
      isplitl [Ht]; · iexact Ht
      isplitl [Hp]; · rw [payload_bar]; iexact Hp
      iexact Hr
    iintro HO
    iapply Hk; iexists _; iexact HO
  · rw [dif_neg (fun h' => h (hp.mp h')), Gd_neg h, Gd_neg h, show tG q (barCell c') 1 = _ from if_neg h, add_zero]
    iintro ⟨-, HO, -, -, -, Hk⟩
    iapply Hk; iexact HO

/-- The barrier wait: one unit, and one hand-over, for each neighbour there is. -/
theorem step_barrier (n : ℕ) (hn : n = (if HasL c then 1 else 0) + (if HasR c then 1 else 0)) {X : Prog (TpuEff nD τ sig (Elt F) Λ₀ .tc) α} {Q : α → sProp 𝕄} :
    iprop(invs D K ∗ levAts L lv ∗ cred (tallyAt (barCell c) () ((if HasL c then 1 else 0) + (if HasR c then 1 else 0))) ∗ ow c (oRk c) ∗ atPos ER (barCell c) 0 ∅ 0
        ∗ (ow c (oRk c) -∗ over D (barCell c) -∗ Gd (HasL c) (barPay c false) -∗ Gd (HasR c) (barPay c true) -∗ WP c X Q))
      ⊢ WP c (.op (.semWait barrier0 n) fun _ => X) Q := by
  subst hn
  unfold ow
  iintro ⟨#HI, #Hlev, Hc, ⟨%W, HO⟩, Hat, Hk⟩
  iapply (Rounds.wp_wait_rest_token 𝒱₀ ER (sched D) (c : Thread nD τ) none (κ := K (barCell c))
      (wpE_semWait_eq 𝒱₀ (c : Thread nD τ) none Set.univ) (Set.mem_univ _) () (O := oRk c) (W := W) (R := 0) (m := 0) (T := ∅)
      ((Nat.zero_add _).trans (expect_bar D c).symm)) $$ [Hc HO Hat]
  · isplitr; · iapply (invs_bar D K c); iexact HI
    isplitl [Hc]; · iexact Hc
    isplitl [HO]; · iexact HO
    isplitr; · iapply (mayWait_low c (.reg barrier0) le_rfl); iexact Hlev
    iexact Hat
  iintro ⟨HO, Hat, -, Hpay⟩
  ihave Hp := (Entails.of_eq (rest_bar D c)) $$ Hpay
  icases Hp with ⟨Hl, Hr⟩
  iapply Hk $$ [HO] [Hat] Hl Hr
  · iexists _; iexact HO
  · unfold over; iexists (0 + 1); isplitr; · ipureintro; exact duties_later D _
    iexact Hat

/-- A send to a neighbour `c'`, if there: the rows' half share is lent, the neighbour's half buffer written. -/
theorem step_send_if (kS kR : Fin 13) (c' : Dev nD) {p : Prop} [Decidable p] {q : Prop} [Decidable q] (hp : p ↔ q)
    (hS : q → used c kS) (hR : q → used c' kR) (dv : p → Dev nD) (hdv : ∀ h, dv h = c')
    {src dst : Memref sig .tc .vmem S2x4x128x64 .bf16} (hsc : dst.view.ref.isScScratch = false)
    {hs : src.view.WordExact} {hd : dst.view.WordExact}
    {hsem : ∀ h : p, DmaTarget.Typed (p := (.tc : Proc τ)) .vmem (.dma (dsem kR)) (.remote (Dev.tc (dv h) : Thread nD τ) dst (.dma (dsem kS)) hsc)}
    (hN : dst.view.amount (.dma (dsem kR)) = N) (hkS : amt kS = N) (hkR : amt kR = N)
    (fs : Buf (Elt F) (src.view.loc (c : Thread nD τ)))
    (hpS : q → mpt c src fullShare.right fs ⊢ dpay D c kS)
    (hpR : q → ∀ fd : Buf (Elt F) (dst.view.loc (c' : Thread nD τ)),
      mpt c' dst fullShare (dst.view.write (Elt F) fd (src.view.read (Elt F) fs) Finset.univ) ⊢ dpay D c' kR)
    (O : CellTallies nD τ sig Unit) {X : Prog (TpuEff nD τ sig (Elt F) Λ₀ .tc) α} {Q : α → sProp 𝕄} :
    iprop(invs D K ∗ mpt c src fullShare.right fs ∗ Gd q (slot c' dst) ∗ ow c (O + tG q (dCell c' kR) N)
        ∗ Gd q (dutyTok ER (dCell c kS) 0 false) ∗ reached ER (dCell c kS) 0
        ∗ Gd q (dutyTok ER (dCell c' kR) 0 false) ∗ Gd q (reached ER (dCell c' kR) 0)
        ∗ (Gd q (cred (tallyAt (dCell c kS) () (amt kS))) -∗ Gd (¬ q) (mpt c src fullShare.right fs) -∗ ow c O -∗ WP c X Q))
      ⊢ WP c (if h : p then .op (.enqueueDma src (.remote (Dev.tc (dv h) : Thread nD τ) dst (.dma (dsem kS)) hsc) (.dma (dsem kR)) hs hd (hsem h)) (fun _ => X) else X) Q := by
  by_cases h : q
  · rw [dif_pos (hp.mpr h), Gd_pos h, Gd_pos h, Gd_pos h, Gd_pos h, Gd_pos h, Gd_neg (not_not.mpr h), show tG q (dCell c' kR) N = _ from if_pos h]
    have hc' : dv (hp.mpr h) = c' := hdv _
    generalize hsem (hp.mpr h) = hsem'
    revert hsem'
    generalize dv (hp.mpr h) = cc at hc'
    subst hc'
    intro hsem'
    unfold ow slot
    iintro ⟨#HI, Hs, ⟨%fd, Hd⟩, ⟨%W, HO⟩, HtS, #HrS, HtR, HrR, Hk⟩
    iapply (Rounds.wp_send_pointsTo 𝒱₀ ER (sched D) (c : Thread nD τ) none (c' := (cc : Thread nD τ)) (src := src) (dst := dst)
      (sS := .dma (dsem kS)) (sem := .dma (dsem kR)) (q := fullShare.right) (fs := fs) (κ₁ := K (dCell c kS)) (κ₂ := K (dCell cc kR))
      (r₁ := 0) (r₂ := 0) (d₁ := false) (d₂ := false) (fd := fd)
      (by rw [duties_dma, if_pos (hS h)]; exact Finset.mem_singleton_self _) (by rw [duties_dma, if_pos (hR h)]; exact Finset.mem_singleton_self _)
      () () N hN ((amount_dma D c kS false).trans hkS) ((amount_dma D cc kR false).trans hkR) O rfl (W := W)
      (by rw [payload_dma]; exact hpS h)
      (by rw [payload_dma]; exact hpR h fd)) $$ [Hs Hd HO HtS HtR HrR]
    · isplitr; · iapply (invs_dma D K c kS); iexact HI
      isplitr; · iapply (invs_dma D K cc kR); iexact HI
      isplitl [Hs]; · iexact Hs
      isplitl [Hd]; · iexact Hd
      isplitl [HO]; · iexact HO
      isplitl [HtS]; · iexact HtS
      isplitr; · iexact HrS
      isplitl [HtR]; · iexact HtR
      iexact HrR
    iintro ⟨HcS, HO⟩
    iapply Hk $$ [HcS] [] [HO]
    · rw [hkS]; iexact HcS
    · iempintro
    iexists _; iexact HO
  · rw [dif_neg (fun h' => h (hp.mp h')), Gd_neg h, Gd_neg h, Gd_neg h, Gd_neg h, Gd_neg h, Gd_pos h, show tG q (dCell c' kR) N = _ from if_neg h, add_zero]
    iintro ⟨-, Hs, -, HO, -, -, -, -, Hk⟩
    iapply Hk $$ [] Hs HO
    iempintro

end Steps

end Cert.KernelIdeal.Win

end
-- ==== Proof.Parts.lean ====
/-
The straight-line parts of the body: each only loads from buffers the device holds, and its results are functions of
what they hold.
-/
module

public import proofs.«01_k».proof.Proof.Steps

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A load from a buffer held at any share. -/
theorem step_load {α : Type} {cs : CoreSpace} {s : Shape} {e : EltTy} {M : Memref sig .tc cs s e} {r : LoadRect s} {hl : M.view.LoadsAt r}
    {q : PosShare TreeShare} {f : Buf (Elt F) (M.view.loc (c : Thread nD τ))} {k : (r.shape.Idx → Elt F e) → Prog (TpuEff nD τ sig (Elt F) Λ₀ .tc) α} {Q : α → sProp 𝕄} :
    iprop(mpt c M q f ∗ (mpt c M q f -∗ WP c (k (M.view.readAt (Elt F) r f)) Q)) ⊢ WP c (.op (.load M r hl) k) Q := by
  iintro ⟨H, Hk⟩
  iapply (wp_load 𝒱₀ (c : Thread nD τ) none Set.univ (m := M) (q := q) (View.setOn_subset_set _ _)) $$ H
  iexact Hk

/-- An unmasked store through a rectangle of a buffer held whole. -/
theorem step_store {α : Type} {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    {f : Buf (Elt F) (M.view.loc (c : Thread nD τ))} {k : PUnit → Prog (TpuEff nD τ sig (Elt F) Λ₀ .tc) α} {Q : α → sProp 𝕄} :
    iprop(mpt c M fullShare f ∗ (mpt c M fullShare ((M.access r).write (Elt F) f w Finset.univ) -∗ WP c (k ⟨⟩) Q)) ⊢ WP c (.op (.store M r w Finset.univ hx hm) k) Q := by
  iintro ⟨H, Hk⟩
  iapply (wp_store 𝒱₀ (c : Thread nD τ) none Set.univ (m := M) (r := r) (Mk := Finset.univ) (S := M.view.set)
    (((M.access r).setOn_subset_set _).trans (by
      show (M.view.slice r).set ⊆ _
      rw [View.set_slice]; exact Finset.map_subset_map.mpr (Finset.subset_univ _)))) $$ H
  iexact Hk

/-- Part 3 on the launch's buffers. -/
abbrev P3 (v58 : IVec S256x256 32) : Prog (TpuEff nD τ sig (Elt F) Λ₀ .tc) (Σ' (v60 : IVec S256x256 1) (v63 : FVec F S256x512 .bf16) (v67 : FVec F S256x64 .bf16) (v77 : FVec F S256x64 .f32) (v79 : FVec F S256x1 .f32) (v83 : FVec F S256x64 .bf16) (v87 : FVec F S256x256 .f32), FVec F S256x256 .f32) :=
  k0_part3_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v58
/-- What part 3 of the body computes from what it reads. -/
def r3 (x : xM.view.ty.Contents (Elt F)) (wq : wqM.view.ty.Contents (Elt F)) (k : kM.view.ty.Contents (Elt F)) (v : vM.view.ty.Contents (Elt F)) (v58 : IVec S256x256 32) : (Σ' (v60 : IVec S256x256 1) (v63 : FVec F S256x512 .bf16) (v67 : FVec F S256x64 .bf16) (v77 : FVec F S256x64 .f32) (v79 : FVec F S256x1 .f32) (v83 : FVec F S256x64 .bf16) (v87 : FVec F S256x256 .f32), FVec F S256x256 .f32) :=
  let v61 := xM.view.readAt (Elt F) (Rect.unit (s := S2x256x512) ![0, 0, 0] S1x256x512.size inb_S2x256x512_S1x256x512_0_0_0).toLoadRect x
  let v64 := wqM.view.readAt (Elt F) (Rect.unit (s := S4x512x64) ![0, 0, 0] S1x512x64.size inb_S4x512x64_S1x512x64_0_0_0).toLoadRect wq
  let v68 := kM.view.readAt (Elt F) (Rect.unit (s := S2x4x256x64) ![0, 0, 0, 0] S1x1x256x64.size inb_S2x4x256x64_S1x1x256x64_0_0_0_0).toLoadRect k
  let v75 := vM.view.readAt (Elt F) (Rect.unit (s := S2x4x256x64) ![0, 0, 0, 0] S1x1x256x64.size inb_S2x4x256x64_S1x1x256x64_0_0_0_0).toLoadRect v
  let v80 := wqM.view.readAt (Elt F) (Rect.unit (s := S4x512x64) ![1, 0, 0] S1x512x64.size inb_S4x512x64_S1x512x64_1_0_0).toLoadRect wq
  let v84 := kM.view.readAt (Elt F) (Rect.unit (s := S2x4x256x64) ![0, 1, 0, 0] S1x1x256x64.size inb_S2x4x256x64_S1x1x256x64_0_1_0_0).toLoadRect k
  ⟨k0_pay5 v58, k0_pay6 v61, k0_pay7 v61 v64, k0_pay9 v58 v61 v64 v68 v75, k0_pay10 v58 v61 v64 v68, k0_pay11 v61 v80, k0_pay12 v61 v80 v84, k0_pay13 (F := F)⟩
theorem part3 (x : xM.view.ty.Contents (Elt F)) (wq : wqM.view.ty.Contents (Elt F)) (k : kM.view.ty.Contents (Elt F)) (v : vM.view.ty.Contents (Elt F)) (v58 : IVec S256x256 32) (Kt : (Σ' (v60 : IVec S256x256 1) (v63 : FVec F S256x512 .bf16) (v67 : FVec F S256x64 .bf16) (v77 : FVec F S256x64 .f32) (v79 : FVec F S256x1 .f32) (v83 : FVec F S256x64 .bf16) (v87 : FVec F S256x256 .f32), FVec F S256x256 .f32) → sProp 𝕄) :
    iprop(mpt c xM fullShare x ∗ mpt c wqM fullShare wq ∗ mpt c kM fullShare.left k ∗ mpt c vM fullShare.left v ∗ (mpt c xM fullShare x -∗ mpt c wqM fullShare wq -∗ mpt c kM fullShare.left k -∗ mpt c vM fullShare.left v -∗ Kt (r3 x wq k v v58)))
      ⊢ WP c (P3 v58) Kt := by
  unfold P3 k0_part3_skel
  simp only [Prog.lift, Prog.bind_op, Prog.bind_ret, Prog.pure_eq_ret]
  iintro ⟨Hx, Hwq, Hk, Hv, Hcont⟩
  iapply (step_load c (M := xM) (q := fullShare) (f := x))
  isplitl [Hx]; · iexact Hx
  iintro Hx
  iapply (step_load c (M := wqM) (q := fullShare) (f := wq))
  isplitl [Hwq]; · iexact Hwq
  iintro Hwq
  iapply (step_load c (M := kM) (q := fullShare.left) (f := k))
  isplitl [Hk]; · iexact Hk
  iintro Hk
  iapply (step_load c (M := vM) (q := fullShare.left) (f := v))
  isplitl [Hv]; · iexact Hv
  iintro Hv
  iapply (step_load c (M := wqM) (q := fullShare) (f := wq))
  isplitl [Hwq]; · iexact Hwq
  iintro Hwq
  iapply (step_load c (M := kM) (q := fullShare.left) (f := k))
  isplitl [Hk]; · iexact Hk
  iintro Hk
  unfold WP; rw [wp_ret]; imodintro
  unfold r3; iapply Hcont $$ Hx Hwq Hk Hv

/-- Part 4 on the launch's buffers. -/
abbrev P4 (v60 : IVec S256x256 1) (v63 : FVec F S256x512 .bf16) (v87 : FVec F S256x256 .f32) (v88 : FVec F S256x256 .f32) : Prog (TpuEff nD τ sig (Elt F) Λ₀ .tc) (Σ' (v93 : FVec F S256x64 .f32) (v95 : FVec F S256x1 .f32) (v99 : FVec F S256x64 .bf16) (v109 : FVec F S256x64 .f32) (v111 : FVec F S256x1 .f32) (v115 : FVec F S256x64 .bf16) (v117 : FVec F S256x64 .bf16), FVec F S256x256 .f32) :=
  k0_part4_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v60 v63 v87 v88
/-- What part 4 of the body computes from what it reads. -/
def r4 (v : vM.view.ty.Contents (Elt F)) (wq : wqM.view.ty.Contents (Elt F)) (k : kM.view.ty.Contents (Elt F)) (v60 : IVec S256x256 1) (v63 : FVec F S256x512 .bf16) (v87 : FVec F S256x256 .f32) (v88 : FVec F S256x256 .f32) : (Σ' (v93 : FVec F S256x64 .f32) (v95 : FVec F S256x1 .f32) (v99 : FVec F S256x64 .bf16) (v109 : FVec F S256x64 .f32) (v111 : FVec F S256x1 .f32) (v115 : FVec F S256x64 .bf16) (v117 : FVec F S256x64 .bf16), FVec F S256x256 .f32) :=
  let v91 := vM.view.readAt (Elt F) (Rect.unit (s := S2x4x256x64) ![0, 1, 0, 0] S1x1x256x64.size inb_S2x4x256x64_S1x1x256x64_0_1_0_0).toLoadRect v
  let v96 := wqM.view.readAt (Elt F) (Rect.unit (s := S4x512x64) ![2, 0, 0] S1x512x64.size inb_S4x512x64_S1x512x64_2_0_0).toLoadRect wq
  let v100 := kM.view.readAt (Elt F) (Rect.unit (s := S2x4x256x64) ![0, 2, 0, 0] S1x1x256x64.size inb_S2x4x256x64_S1x1x256x64_0_2_0_0).toLoadRect k
  let v107 := vM.view.readAt (Elt F) (Rect.unit (s := S2x4x256x64) ![0, 2, 0, 0] S1x1x256x64.size inb_S2x4x256x64_S1x1x256x64_0_2_0_0).toLoadRect v
  let v112 := wqM.view.readAt (Elt F) (Rect.unit (s := S4x512x64) ![3, 0, 0] S1x512x64.size inb_S4x512x64_S1x512x64_3_0_0).toLoadRect wq
  let v116 := kM.view.readAt (Elt F) (Rect.unit (s := S2x4x256x64) ![0, 3, 0, 0] S1x1x256x64.size inb_S2x4x256x64_S1x1x256x64_0_3_0_0).toLoadRect k
  have cst_88 : FVec F S256x256 .f32 := constant S256x256 .f32 0x00000000#32
  ⟨k0_pay15 v60 v87 v88 v91, k0_pay16 v60 v87 v88, k0_pay17 v63 v96, k0_pay19 v60 v63 v96 v100 v107, k0_pay20 v60 v63 v96 v100, k0_pay21 v63 v112, k0_pay22 v116, cst_88⟩
theorem part4 (v : vM.view.ty.Contents (Elt F)) (wq : wqM.view.ty.Contents (Elt F)) (k : kM.view.ty.Contents (Elt F)) (v60 : IVec S256x256 1) (v63 : FVec F S256x512 .bf16) (v87 : FVec F S256x256 .f32) (v88 : FVec F S256x256 .f32) (Kt : (Σ' (v93 : FVec F S256x64 .f32) (v95 : FVec F S256x1 .f32) (v99 : FVec F S256x64 .bf16) (v109 : FVec F S256x64 .f32) (v111 : FVec F S256x1 .f32) (v115 : FVec F S256x64 .bf16) (v117 : FVec F S256x64 .bf16), FVec F S256x256 .f32) → sProp 𝕄) :
    iprop(mpt c vM fullShare.left v ∗ mpt c wqM fullShare wq ∗ mpt c kM fullShare.left k ∗ (mpt c vM fullShare.left v -∗ mpt c wqM fullShare wq -∗ mpt c kM fullShare.left k -∗ Kt (r4 v wq k v60 v63 v87 v88)))
      ⊢ WP c (P4 v60 v63 v87 v88) Kt := by
  unfold P4 k0_part4_skel
  simp only [Prog.lift, Prog.bind_op, Prog.bind_ret, Prog.pure_eq_ret]
  iintro ⟨Hv, Hwq, Hk, Hcont⟩
  iapply (step_load c (M := vM) (q := fullShare.left) (f := v))
  isplitl [Hv]; · iexact Hv
  iintro Hv
  iapply (step_load c (M := wqM) (q := fullShare) (f := wq))
  isplitl [Hwq]; · iexact Hwq
  iintro Hwq
  iapply (step_load c (M := kM) (q := fullShare.left) (f := k))
  isplitl [Hk]; · iexact Hk
  iintro Hk
  iapply (step_load c (M := vM) (q := fullShare.left) (f := v))
  isplitl [Hv]; · iexact Hv
  iintro Hv
  iapply (step_load c (M := wqM) (q := fullShare) (f := wq))
  isplitl [Hwq]; · iexact Hwq
  iintro Hwq
  iapply (step_load c (M := kM) (q := fullShare.left) (f := k))
  isplitl [Hk]; · iexact Hk
  iintro Hk
  unfold WP; rw [wp_ret]; imodintro
  unfold r4; iapply Hcont $$ Hv Hwq Hk

/-- Part 5 on the launch's buffers. -/
abbrev P5 (v60 : IVec S256x256 1) (v115 : FVec F S256x64 .bf16) (v117 : FVec F S256x64 .bf16) (cst_88 : FVec F S256x256 .f32) : Prog (TpuEff nD τ sig (Elt F) Λ₀ .tc) (Σ' (v125 : FVec F S256x64 .f32) (v127 : FVec F S256x1 .f32) (v130 : FVec F S256x512 .bf16) (v134 : FVec F S256x64 .bf16) (v144 : FVec F S256x64 .f32) (v146 : FVec F S256x1 .f32), FVec F S512x64 .bf16) :=
  k0_part5_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v60 v115 v117 cst_88
/-- What part 5 of the body computes from what it reads. -/
def r5 (v : vM.view.ty.Contents (Elt F)) (x : xM.view.ty.Contents (Elt F)) (wq : wqM.view.ty.Contents (Elt F)) (k : kM.view.ty.Contents (Elt F)) (v60 : IVec S256x256 1) (v115 : FVec F S256x64 .bf16) (v117 : FVec F S256x64 .bf16) (cst_88 : FVec F S256x256 .f32) : (Σ' (v125 : FVec F S256x64 .f32) (v127 : FVec F S256x1 .f32) (v130 : FVec F S256x512 .bf16) (v134 : FVec F S256x64 .bf16) (v144 : FVec F S256x64 .f32) (v146 : FVec F S256x1 .f32), FVec F S512x64 .bf16) :=
  let v123 := vM.view.readAt (Elt F) (Rect.unit (s := S2x4x256x64) ![0, 3, 0, 0] S1x1x256x64.size inb_S2x4x256x64_S1x1x256x64_0_3_0_0).toLoadRect v
  let v128 := xM.view.readAt (Elt F) (Rect.unit (s := S2x256x512) ![1, 0, 0] S1x256x512.size inb_S2x256x512_S1x256x512_1_0_0).toLoadRect x
  let v131 := wqM.view.readAt (Elt F) (Rect.unit (s := S4x512x64) ![0, 0, 0] S1x512x64.size inb_S4x512x64_S1x512x64_0_0_0).toLoadRect wq
  let v135 := kM.view.readAt (Elt F) (Rect.unit (s := S2x4x256x64) ![1, 0, 0, 0] S1x1x256x64.size inb_S2x4x256x64_S1x1x256x64_1_0_0_0).toLoadRect k
  let v142 := vM.view.readAt (Elt F) (Rect.unit (s := S2x4x256x64) ![1, 0, 0, 0] S1x1x256x64.size inb_S2x4x256x64_S1x1x256x64_1_0_0_0).toLoadRect v
  let v147 := wqM.view.readAt (Elt F) (Rect.unit (s := S4x512x64) ![1, 0, 0] S1x512x64.size inb_S4x512x64_S1x512x64_1_0_0).toLoadRect wq
  ⟨k0_pay24 v60 v115 v117 cst_88 v123, k0_pay25 v60 v115 v117 cst_88, k0_pay26 v128, k0_pay27 v128 v131, k0_pay29 v60 v128 v131 v135 v142, k0_pay30 v60 v128 v131 v135, k0_pay31 v147⟩
theorem part5 (v : vM.view.ty.Contents (Elt F)) (x : xM.view.ty.Contents (Elt F)) (wq : wqM.view.ty.Contents (Elt F)) (k : kM.view.ty.Contents (Elt F)) (v60 : IVec S256x256 1) (v115 : FVec F S256x64 .bf16) (v117 : FVec F S256x64 .bf16) (cst_88 : FVec F S256x256 .f32) (Kt : (Σ' (v125 : FVec F S256x64 .f32) (v127 : FVec F S256x1 .f32) (v130 : FVec F S256x512 .bf16) (v134 : FVec F S256x64 .bf16) (v144 : FVec F S256x64 .f32) (v146 : FVec F S256x1 .f32), FVec F S512x64 .bf16) → sProp 𝕄) :
    iprop(mpt c vM fullShare.left v ∗ mpt c xM fullShare x ∗ mpt c wqM fullShare wq ∗ mpt c kM fullShare.left k ∗ (mpt c vM fullShare.left v -∗ mpt c xM fullShare x -∗ mpt c wqM fullShare wq -∗ mpt c kM fullShare.left k -∗ Kt (r5 v x wq k v60 v115 v117 cst_88)))
      ⊢ WP c (P5 v60 v115 v117 cst_88) Kt := by
  unfold P5 k0_part5_skel
  simp only [Prog.lift, Prog.bind_op, Prog.bind_ret, Prog.pure_eq_ret]
  iintro ⟨Hv, Hx, Hwq, Hk, Hcont⟩
  iapply (step_load c (M := vM) (q := fullShare.left) (f := v))
  isplitl [Hv]; · iexact Hv
  iintro Hv
  iapply (step_load c (M := xM) (q := fullShare) (f := x))
  isplitl [Hx]; · iexact Hx
  iintro Hx
  iapply (step_load c (M := wqM) (q := fullShare) (f := wq))
  isplitl [Hwq]; · iexact Hwq
  iintro Hwq
  iapply (step_load c (M := kM) (q := fullShare.left) (f := k))
  isplitl [Hk]; · iexact Hk
  iintro Hk
  iapply (step_load c (M := vM) (q := fullShare.left) (f := v))
  isplitl [Hv]; · iexact Hv
  iintro Hv
  iapply (step_load c (M := wqM) (q := fullShare) (f := wq))
  isplitl [Hwq]; · iexact Hwq
  iintro Hwq
  unfold WP; rw [wp_ret]; imodintro
  unfold r5; iapply Hcont $$ Hv Hx Hwq Hk

/-- Part 6 on the launch's buffers. -/
abbrev P6 (v60 : IVec S256x256 1) (v130 : FVec F S256x512 .bf16) (v148 : FVec F S512x64 .bf16) : Prog (TpuEff nD τ sig (Elt F) Λ₀ .tc) (Σ' (v150 : FVec F S256x64 .bf16) (v160 : FVec F S256x64 .f32) (v162 : FVec F S256x1 .f32) (v166 : FVec F S256x64 .bf16) (v176 : FVec F S256x64 .f32), FVec F S256x1 .f32) :=
  k0_part6_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v60 v130 v148
/-- What part 6 of the body computes from what it reads. -/
def r6 (k : kM.view.ty.Contents (Elt F)) (v : vM.view.ty.Contents (Elt F)) (wq : wqM.view.ty.Contents (Elt F)) (v60 : IVec S256x256 1) (v130 : FVec F S256x512 .bf16) (v148 : FVec F S512x64 .bf16) : (Σ' (v150 : FVec F S256x64 .bf16) (v160 : FVec F S256x64 .f32) (v162 : FVec F S256x1 .f32) (v166 : FVec F S256x64 .bf16) (v176 : FVec F S256x64 .f32), FVec F S256x1 .f32) :=
  let v151 := kM.view.readAt (Elt F) (Rect.unit (s := S2x4x256x64) ![1, 1, 0, 0] S1x1x256x64.size inb_S2x4x256x64_S1x1x256x64_1_1_0_0).toLoadRect k
  let v158 := vM.view.readAt (Elt F) (Rect.unit (s := S2x4x256x64) ![1, 1, 0, 0] S1x1x256x64.size inb_S2x4x256x64_S1x1x256x64_1_1_0_0).toLoadRect v
  let v163 := wqM.view.readAt (Elt F) (Rect.unit (s := S4x512x64) ![2, 0, 0] S1x512x64.size inb_S4x512x64_S1x512x64_2_0_0).toLoadRect wq
  let v167 := kM.view.readAt (Elt F) (Rect.unit (s := S2x4x256x64) ![1, 2, 0, 0] S1x1x256x64.size inb_S2x4x256x64_S1x1x256x64_1_2_0_0).toLoadRect k
  let v174 := vM.view.readAt (Elt F) (Rect.unit (s := S2x4x256x64) ![1, 2, 0, 0] S1x1x256x64.size inb_S2x4x256x64_S1x1x256x64_1_2_0_0).toLoadRect v
  ⟨k0_pay32 v130 v148, k0_pay34 v60 v130 v148 v151 v158, k0_pay35 v60 v130 v148 v151, k0_pay36 v130 v163, k0_pay38 v60 v130 v163 v167 v174, k0_pay39 v60 v130 v163 v167⟩
theorem part6 (k : kM.view.ty.Contents (Elt F)) (v : vM.view.ty.Contents (Elt F)) (wq : wqM.view.ty.Contents (Elt F)) (v60 : IVec S256x256 1) (v130 : FVec F S256x512 .bf16) (v148 : FVec F S512x64 .bf16) (Kt : (Σ' (v150 : FVec F S256x64 .bf16) (v160 : FVec F S256x64 .f32) (v162 : FVec F S256x1 .f32) (v166 : FVec F S256x64 .bf16) (v176 : FVec F S256x64 .f32), FVec F S256x1 .f32) → sProp 𝕄) :
    iprop(mpt c kM fullShare.left k ∗ mpt c vM fullShare.left v ∗ mpt c wqM fullShare wq ∗ (mpt c kM fullShare.left k -∗ mpt c vM fullShare.left v -∗ mpt c wqM fullShare wq -∗ Kt (r6 k v wq v60 v130 v148)))
      ⊢ WP c (P6 v60 v130 v148) Kt := by
  unfold P6 k0_part6_skel
  simp only [Prog.lift, Prog.bind_op, Prog.bind_ret, Prog.pure_eq_ret]
  iintro ⟨Hk, Hv, Hwq, Hcont⟩
  iapply (step_load c (M := kM) (q := fullShare.left) (f := k))
  isplitl [Hk]; · iexact Hk
  iintro Hk
  iapply (step_load c (M := vM) (q := fullShare.left) (f := v))
  isplitl [Hv]; · iexact Hv
  iintro Hv
  iapply (step_load c (M := wqM) (q := fullShare) (f := wq))
  isplitl [Hwq]; · iexact Hwq
  iintro Hwq
  iapply (step_load c (M := kM) (q := fullShare.left) (f := k))
  isplitl [Hk]; · iexact Hk
  iintro Hk
  iapply (step_load c (M := vM) (q := fullShare.left) (f := v))
  isplitl [Hv]; · iexact Hv
  iintro Hv
  unfold WP; rw [wp_ret]; imodintro
  unfold r6; iapply Hcont $$ Hk Hv Hwq

/-- Part 8 on the launch's buffers. -/
abbrev P8 (v2 : BitVec 32) (v67 : FVec F S256x64 .bf16) (v83 : FVec F S256x64 .bf16) (v99 : FVec F S256x64 .bf16) (v115 : FVec F S256x64 .bf16) (v201 : IVec S256x256 32) (v202 : IVec S256x256 32) (v209 : IVec S256x256 1) (v210 : IVec S256x256 32) : Prog (TpuEff nD τ sig (Elt F) Λ₀ .tc) (Σ' (v217 : IVec S256x256 1) (v223 : FVec F S256x256 .f32) (v229 : FVec F S256x256 .f32) (v235 : FVec F S256x256 .f32), FVec F S256x256 .f32) :=
  k0_part8_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v2 v67 v83 v99 v115 v201 v202 v209 v210
/-- What part 8 of the body computes from what it reads. -/
def r8 (kh : khM.view.ty.Contents (Elt F)) (v2 : BitVec 32) (v67 : FVec F S256x64 .bf16) (v83 : FVec F S256x64 .bf16) (v99 : FVec F S256x64 .bf16) (v115 : FVec F S256x64 .bf16) (v201 : IVec S256x256 32) (v202 : IVec S256x256 32) (v209 : IVec S256x256 1) (v210 : IVec S256x256 32) : (Σ' (v217 : IVec S256x256 1) (v223 : FVec F S256x256 .f32) (v229 : FVec F S256x256 .f32) (v235 : FVec F S256x256 .f32), FVec F S256x256 .f32) :=
  let v218 := khM.view.readAt (Elt F) (Rect.unit (s := S2x4x256x64) ![0, 0, 0, 0] S1x1x256x64.size inb_S2x4x256x64_S1x1x256x64_0_0_0_0).toLoadRect kh
  let v224 := khM.view.readAt (Elt F) (Rect.unit (s := S2x4x256x64) ![0, 1, 0, 0] S1x1x256x64.size inb_S2x4x256x64_S1x1x256x64_0_1_0_0).toLoadRect kh
  let v230 := khM.view.readAt (Elt F) (Rect.unit (s := S2x4x256x64) ![0, 2, 0, 0] S1x1x256x64.size inb_S2x4x256x64_S1x1x256x64_0_2_0_0).toLoadRect kh
  let v236 := khM.view.readAt (Elt F) (Rect.unit (s := S2x4x256x64) ![0, 3, 0, 0] S1x1x256x64.size inb_S2x4x256x64_S1x1x256x64_0_3_0_0).toLoadRect kh
  ⟨k0_pay46 v2 v201 v202 v209 v210, k0_pay47 v2 v67 v201 v202 v209 v210 v218, k0_pay48 v2 v83 v201 v202 v209 v210 v224, k0_pay49 v2 v99 v201 v202 v209 v210 v230, k0_pay50 v2 v115 v201 v202 v209 v210 v236⟩
theorem part8 (kh : khM.view.ty.Contents (Elt F)) (v2 : BitVec 32) (v67 : FVec F S256x64 .bf16) (v83 : FVec F S256x64 .bf16) (v99 : FVec F S256x64 .bf16) (v115 : FVec F S256x64 .bf16) (v201 : IVec S256x256 32) (v202 : IVec S256x256 32) (v209 : IVec S256x256 1) (v210 : IVec S256x256 32) (Kt : (Σ' (v217 : IVec S256x256 1) (v223 : FVec F S256x256 .f32) (v229 : FVec F S256x256 .f32) (v235 : FVec F S256x256 .f32), FVec F S256x256 .f32) → sProp 𝕄) :
    iprop(mpt c khM fullShare kh ∗ (mpt c khM fullShare kh -∗ Kt (r8 kh v2 v67 v83 v99 v115 v201 v202 v209 v210)))
      ⊢ WP c (P8 v2 v67 v83 v99 v115 v201 v202 v209 v210) Kt := by
  unfold P8 k0_part8_skel
  simp only [Prog.lift, Prog.bind_op, Prog.bind_ret, Prog.pure_eq_ret]
  iintro ⟨Hkh, Hcont⟩
  iapply (step_load c (M := khM) (q := fullShare) (f := kh))
  isplitl [Hkh]; · iexact Hkh
  iintro Hkh
  iapply (step_load c (M := khM) (q := fullShare) (f := kh))
  isplitl [Hkh]; · iexact Hkh
  iintro Hkh
  iapply (step_load c (M := khM) (q := fullShare) (f := kh))
  isplitl [Hkh]; · iexact Hkh
  iintro Hkh
  iapply (step_load c (M := khM) (q := fullShare) (f := kh))
  isplitl [Hkh]; · iexact Hkh
  iintro Hkh
  unfold WP; rw [wp_ret]; imodintro
  unfold r8; iapply Hcont $$ Hkh

/-- Part 11 on the launch's buffers. -/
abbrev P11 (v95 : FVec F S256x1 .f32) (v109 : FVec F S256x64 .f32) (v111 : FVec F S256x1 .f32) (v125 : FVec F S256x64 .f32) (v127 : FVec F S256x1 .f32) (v229 : FVec F S256x256 .f32) (v235 : FVec F S256x256 .f32) (v241 : FVec F S256x256 .f32) (v294 : FVec F S256x512 .f32) (v299 : FVec F S256x64 .f32) : Prog (TpuEff nD τ sig (Elt F) Λ₀ .tc) (FVec F S256x512 .f32) :=
  k0_part11_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v95 v109 v111 v125 v127 v229 v235 v241 v294 v299
/-- What part 11 of the body computes from what it reads. -/
def r11 (wo : woM.view.ty.Contents (Elt F)) (vh : vhM.view.ty.Contents (Elt F)) (v95 : FVec F S256x1 .f32) (v109 : FVec F S256x64 .f32) (v111 : FVec F S256x1 .f32) (v125 : FVec F S256x64 .f32) (v127 : FVec F S256x1 .f32) (v229 : FVec F S256x256 .f32) (v235 : FVec F S256x256 .f32) (v241 : FVec F S256x256 .f32) (v294 : FVec F S256x512 .f32) (v299 : FVec F S256x64 .f32) : (FVec F S256x512 .f32) :=
  let v306 := woM.view.readAt (Elt F) (Rect.unit (s := S256x512) ![64, 0] S64x512.size inb_S256x512_S64x512_64_0).toLoadRect wo
  let v310 := vhM.view.readAt (Elt F) (Rect.unit (s := S2x4x256x64) ![0, 2, 0, 0] S1x1x256x64.size inb_S2x4x256x64_S1x1x256x64_0_2_0_0).toLoadRect vh
  let v320 := woM.view.readAt (Elt F) (Rect.unit (s := S256x512) ![128, 0] S64x512.size inb_S256x512_S64x512_128_0).toLoadRect wo
  let v324 := vhM.view.readAt (Elt F) (Rect.unit (s := S2x4x256x64) ![0, 3, 0, 0] S1x1x256x64.size inb_S2x4x256x64_S1x1x256x64_0_3_0_0).toLoadRect vh
  let v334 := woM.view.readAt (Elt F) (Rect.unit (s := S256x512) ![192, 0] S64x512.size inb_S256x512_S64x512_192_0).toLoadRect wo
  (k0_pay57 v95 v109 v111 v125 v127 v229 v235 v241 v294 v299 v306 v310 v320 v324 v334)
theorem part11 (wo : woM.view.ty.Contents (Elt F)) (vh : vhM.view.ty.Contents (Elt F)) (v95 : FVec F S256x1 .f32) (v109 : FVec F S256x64 .f32) (v111 : FVec F S256x1 .f32) (v125 : FVec F S256x64 .f32) (v127 : FVec F S256x1 .f32) (v229 : FVec F S256x256 .f32) (v235 : FVec F S256x256 .f32) (v241 : FVec F S256x256 .f32) (v294 : FVec F S256x512 .f32) (v299 : FVec F S256x64 .f32) (Kt : (FVec F S256x512 .f32) → sProp 𝕄) :
    iprop(mpt c woM fullShare wo ∗ mpt c vhM fullShare vh ∗ (mpt c woM fullShare wo -∗ mpt c vhM fullShare vh -∗ Kt (r11 wo vh v95 v109 v111 v125 v127 v229 v235 v241 v294 v299)))
      ⊢ WP c (P11 v95 v109 v111 v125 v127 v229 v235 v241 v294 v299) Kt := by
  unfold P11 k0_part11_skel
  simp only [Prog.lift, Prog.bind_op, Prog.bind_ret, Prog.pure_eq_ret]
  iintro ⟨Hwo, Hvh, Hcont⟩
  iapply (step_load c (M := woM) (q := fullShare) (f := wo))
  isplitl [Hwo]; · iexact Hwo
  iintro Hwo
  iapply (step_load c (M := vhM) (q := fullShare) (f := vh))
  isplitl [Hvh]; · iexact Hvh
  iintro Hvh
  iapply (step_load c (M := woM) (q := fullShare) (f := wo))
  isplitl [Hwo]; · iexact Hwo
  iintro Hwo
  iapply (step_load c (M := vhM) (q := fullShare) (f := vh))
  isplitl [Hvh]; · iexact Hvh
  iintro Hvh
  iapply (step_load c (M := woM) (q := fullShare) (f := wo))
  isplitl [Hwo]; · iexact Hwo
  iintro Hwo
  unfold WP; rw [wp_ret]; imodintro
  unfold r11; iapply Hcont $$ Hwo Hvh

end Cert.KernelIdeal.Win

end
-- ==== Proof.Start.lean ====
/-
The first two parts of the body: the local loads start, the neighbours' barrier is signalled and waited for, and the
key and value rows next to each neighbour are sent.
-/
module

public import proofs.«01_k».proof.Proof.Parts

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

theorem Gd_iff {p q : Prop} [Decidable p] [Decidable q] (h : p ↔ q) (P : sProp 𝕄) : Gd p P = Gd q P := by
  by_cases hp : p
  · rw [Gd_pos hp, Gd_pos (h.mp hp)]
  · rw [Gd_neg hp, Gd_neg (fun hq => hp (h.mpr hq))]

/-- A resource held either way is held under a condition or under its negation. -/
theorem Gd_split (p : Prop) [Decidable p] (P : sProp 𝕄) : P ⊢ iprop(Gd p P ∗ Gd (¬ p) P) := by
  by_cases hp : p
  · rw [Gd_pos hp, Gd_neg (not_not.mpr hp)]; iintro H; isplitl [H]; · iexact H
    iempintro
  · rw [Gd_neg hp, Gd_pos hp]; iintro H; isplitr; · iempintro
    iexact H
theorem Gd_join (p : Prop) [Decidable p] (P : sProp 𝕄) : iprop(Gd p P ∗ Gd (¬ p) P) ⊢ P := by
  by_cases hp : p
  · rw [Gd_pos hp, Gd_neg (not_not.mpr hp)]; iintro ⟨H, -⟩; iexact H
  · rw [Gd_neg hp, Gd_pos hp]; iintro ⟨-, H⟩; iexact H
theorem Gd_mono (p : Prop) [Decidable p] {P Q : sProp 𝕄} (h : p → P ⊢ Q) : Gd p P ⊢ Gd p Q := by
  by_cases hp : p
  · rw [Gd_pos hp, Gd_pos hp]; exact h hp
  · rw [Gd_neg hp, Gd_neg hp]
theorem Gd_sep (p : Prop) [Decidable p] (P Q : sProp 𝕄) : Gd p iprop(P ∗ Q) ⊢ iprop(Gd p P ∗ Gd p Q) := by
  by_cases hp : p
  · rw [Gd_pos hp, Gd_pos hp, Gd_pos hp]
  · rw [Gd_neg hp, Gd_neg hp, Gd_neg hp]; iintro -; isplitr <;> iempintro
theorem sep_Gd (p : Prop) [Decidable p] (P Q : sProp 𝕄) : iprop(Gd p P ∗ Gd p Q) ⊢ Gd p iprop(P ∗ Q) := by
  by_cases hp : p
  · rw [Gd_pos hp, Gd_pos hp, Gd_pos hp]
  · rw [Gd_neg hp, Gd_neg hp, Gd_neg hp]; iintro -; iempintro

/-- A guarded hand-over, with facts that may be copied. -/
theorem give (p : Prop) [Decidable p] (R : sProp 𝕄) {P A B : sProp 𝕄} [BI.Persistent A] [BI.Persistent B] (h : iprop(P ∗ A ∗ B) ⊢ R) :
    iprop(Gd p P ∗ A ∗ B) ⊢ Gd p R := by
  by_cases hp : p
  · rw [Gd_pos hp, Gd_pos hp]; exact h
  · rw [Gd_neg hp, Gd_neg hp]; iintro ⟨-, -, -⟩; iempintro
theorem give_pay (c : Dev nD) (A B C E : sProp 𝕄) : iprop((A ∗ B) ∗ C ∗ E) ⊢ iprop(A ∗ B ∗ C ∗ E) := by
  iintro ⟨⟨HA, HB⟩, HC, HE⟩
  isplitl [HA]; · iexact HA
  isplitl [HB]; · iexact HB
  isplitl [HC] <;> iassumption

/-- At an end of the line, the missing neighbour's half of the value halo is cleared. -/
theorem step_zero_if {α : Type} {p : Prop} [Decidable p] {q : Prop} [Decidable q] (hp : p ↔ q) {M : Memref sig .tc .vmem S2x4x256x64 .bf16} {r : Rect S2x4x256x64}
    {w : r.shape.Idx → Elt F .bf16} {hl : M.view.LoadsAt r.toLoadRect} {hx : (M.access r).Stores Finset.univ} {hm : Finset.univ = Finset.univ ∨ ∀ a, r.stride a = 1}
    (hr : ∀ a, r.stride a = 1)
    {X : Prog (TpuEff nD τ sig (Elt F) Λ₀ .tc) α} {Q : α → sProp 𝕄} :
    iprop(Gd q iprop(∃ f, mpt c (M.slice r hr) fullShare f) ∗ (Gd q iprop(∃ f, ⌜(M.slice r hr).view.read (Elt F) f = w⌝ ∗ mpt c (M.slice r hr) fullShare f) -∗ WP c X Q))
      ⊢ WP c (if h : p then .op (.load M r.toLoadRect hl) (fun _ => .op (.store M r w Finset.univ hx hm) fun _ => X) else X) Q := by
  by_cases h : q
  · rw [dif_pos (hp.mpr h), Gd_pos h, Gd_pos h]
    iintro ⟨⟨%f, H⟩, Hk⟩
    iapply (wp_load 𝒱₀ (c : Thread nD τ) none Set.univ (m := M) (q := fullShare) (S := (M.slice r hr).view.set) (f := f)
      (by show M.view.setOn r.set ⊆ (M.view.slice r).set; rw [View.set_slice]; exact subset_rfl)) $$ H
    iintro H
    iapply (wp_store 𝒱₀ (c : Thread nD τ) none Set.univ (m := M) (r := r) (Mk := Finset.univ) (S := (M.slice r hr).view.set) (f := f)
      ((M.access r).setOn_subset_set _)) $$ H
    iintro H
    iapply Hk
    iexists _; isplitr
    · ipureintro; exact View.read_write_univ (v := M.access r) f w
    iexact H
  · rw [dif_neg (fun h' => h (hp.mp h')), Gd_neg h, Gd_neg h]
    iintro ⟨-, Hk⟩
    iapply Hk; iempintro

/-- Part 1 on the launch's buffers. -/
abbrev P1  : Prog (TpuEff nD τ sig (Elt F) Λ₀ .tc) (Σ' (d0 : Dev nD) (v2 : BitVec 32) (v4 : BitVec 32) (v6 : BitVec 32) (v17 : Sems sig S_), BitVec 32) :=
  k0_part1_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9
/-- Part 2 on the launch's buffers. -/
abbrev P2 (d0 : Dev nD) (v2 : BitVec 32) (v4 : BitVec 32) (v6 : BitVec 32) (v17 : Sems sig S_) (c0_i32_12 : BitVec 32) : Prog (TpuEff nD τ sig (Elt F) Λ₀ .tc) (IVec S256x256 32) :=
  k0_part2_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 d0 v2 v4 v6 v17 c0_i32_12
/-- What part 1 returns: the device, its number, its neighbours' numbers, and the barrier. -/
def r1 : Σ' (d0 : Dev nD) (v2 : BitVec 32) (v4 : BitVec 32) (v6 : BitVec 32) (v17 : Sems sig S_), BitVec 32 :=
  ⟨c, wd c, Scalar.maxsi (Scalar.subi (wd c) 1#32) 0#32, Scalar.minsi (Scalar.addi (wd c) 1#32) 7#32, SemArray.scalar (sig.barrier 0 rfl), 0#32⟩

theorem part1 (Kt : (Σ' (d0 : Dev nD) (v2 : BitVec 32) (v4 : BitVec 32) (v6 : BitVec 32) (v17 : Sems sig S_), BitVec 32) → sProp 𝕄) :
    iprop(invs D K ∗ mpt c hkM fullShare (D c main_v2) ∗ mpt c hvM fullShare (D c main_v4) ∗ mpt c hxM fullShare (D c main_arg0) ∗ mpt c hqM fullShare (D c main_v9) ∗ mpt c hoM fullShare (D c main_v10) ∗ (∃ f, mpt c kM fullShare f) ∗ (∃ f, mpt c vM fullShare f) ∗ (∃ f, mpt c xM fullShare f) ∗ (∃ f, mpt c wqM fullShare f) ∗ (∃ f, mpt c woM fullShare f) ∗ dutyTok ER (dCell c 0) 0 false ∗ dutyTok ER (dCell c 1) 0 false ∗ dutyTok ER (dCell c 2) 0 false ∗ dutyTok ER (dCell c 3) 0 false ∗ dutyTok ER (dCell c 4) 0 false ∗ reached ER (dCell c 0) 0 ∗ reached ER (dCell c 1) 0 ∗ reached ER (dCell c 2) 0 ∗ reached ER (dCell c 3) 0 ∗ reached ER (dCell c 4) 0 ∗ ow c (O₀ c) ∗ Gd (HasL c) (dutyTok ER (barCell (prv c)) 0 true) ∗ reached ER (barCell (prv c)) 0 ∗ Gd (HasR c) (dutyTok ER (barCell (nxt c)) 0 false) ∗ reached ER (barCell (nxt c)) 0 ∗ slot c (hA khM) ∗ slot c (hB khM) ∗ slot c (hA vhM) ∗ slot c (hB vhM) ∗ reached ER (dCell c 9) 0 ∗ reached ER (dCell c 10) 0 ∗ reached ER (dCell c 11) 0 ∗ reached ER (dCell c 12) 0
        ∗ (cred (tallyAt (dCell c 0) () (amt 0)) -∗ cred (tallyAt (dCell c 1) () (amt 1)) -∗ cred (tallyAt (dCell c 2) () (amt 2)) -∗ cred (tallyAt (dCell c 3) () (amt 3)) -∗ cred (tallyAt (dCell c 4) () (amt 4)) -∗ ow c (oRk c) -∗ Gd (¬ HasL c) (slot c (hA khM)) -∗ Gd (¬ HasR c) (slot c (hB khM)) -∗ Gd (¬ HasL c) (got c (hA vhM) k0_pay2) -∗ Gd (¬ HasR c) (got c (hB vhM) k0_pay3) -∗ Kt (r1 c)))
      ⊢ WP c P1 Kt := by
  unfold P1 k0_part1_skel WP got
  simp only [semSignalWord, semWaitWord, Prog.lift, Prog.bind_op, Prog.bind_ret, Prog.pure_eq_ret, wp_deviceId, ld_sem0, ld_sem1, ld_sem2, ld_sem3, ld_sem4, sd_sem0, sd_sem1, sd_sem2, sd_sem3, rv_sem0, rv_sem1, rv_sem2, rv_sem3]
  iintro ⟨#HI, Hs0, Hs1, Hs2, Hs3, Hs4, Hd0, Hd1, Hd2, Hd3, Hd4, Ht0, Ht1, Ht2, Ht3, Ht4, #Hr0, #Hr1, #Hr2, #Hr3, #Hr4, HO, HtL, #HrL, HtR, #HrR, HkA, HkB, HvA, HvB, #Hr9, #Hr10, #Hr11, #Hr12, Hcont⟩
  iapply (step_copy D K c 0 trivial (src := hkM) (dst := kM) rfl (D c main_v2) (fun fd => by
    rw [View.read_whole, View.write_whole_univ]; exact BI.Entails.refl _))
  isplitr; · iexact HI
  isplitl [Hs0]; · iexact Hs0
  isplitl [Hd0]; · iexact Hd0
  isplitl [Ht0]; · iexact Ht0
  isplitr; · iexact Hr0
  iintro Hc0
  iapply (step_copy D K c 1 trivial (src := hvM) (dst := vM) rfl (D c main_v4) (fun fd => by
    rw [View.read_whole, View.write_whole_univ]; exact BI.Entails.refl _))
  isplitr; · iexact HI
  isplitl [Hs1]; · iexact Hs1
  isplitl [Hd1]; · iexact Hd1
  isplitl [Ht1]; · iexact Ht1
  isplitr; · iexact Hr1
  iintro Hc1
  iapply (step_copy D K c 2 trivial (src := hxM) (dst := xM) rfl (D c main_arg0) (fun fd => by
    rw [View.read_whole, View.write_whole_univ]; exact BI.Entails.refl _))
  isplitr; · iexact HI
  isplitl [Hs2]; · iexact Hs2
  isplitl [Hd2]; · iexact Hd2
  isplitl [Ht2]; · iexact Ht2
  isplitr; · iexact Hr2
  iintro Hc2
  iapply (step_copy D K c 3 trivial (src := hqM) (dst := wqM) rfl (D c main_v9) (fun fd => by
    rw [View.read_whole, View.write_whole_univ]; exact BI.Entails.refl _))
  isplitr; · iexact HI
  isplitl [Hs3]; · iexact Hs3
  isplitl [Hd3]; · iexact Hd3
  isplitl [Ht3]; · iexact Ht3
  isplitr; · iexact Hr3
  iintro Hc3
  iapply (step_copy D K c 4 trivial (src := hoM) (dst := woM) rfl (D c main_v10) (fun fd => by
    rw [View.read_whole, View.write_whole_univ]; exact BI.Entails.refl _))
  isplitr; · iexact HI
  isplitl [Hs4]; · iexact Hs4
  isplitl [Hd4]; · iexact Hd4
  isplitl [Ht4]; · iexact Ht4
  isplitr; · iexact Hr4
  iintro Hc4
  icases (Gd_split (HasL c) (slot c (hA khM))) $$ HkA with ⟨HkA, HkA'⟩
  icases (Gd_split (HasR c) (slot c (hB khM))) $$ HkB with ⟨HkB, HkB'⟩
  icases (Gd_split (HasL c) (slot c (hA vhM))) $$ HvA with ⟨HvA, HvA'⟩
  icases (Gd_split (HasR c) (slot c (hB vhM))) $$ HvB with ⟨HvB, HvB'⟩
  iapply (step_signal_if D K c (prv c) true (cond1_iff c) (fun h => by rw [duties_bar, if_pos (hasR_prv c h)]; exact Finset.mem_union_right _ (Finset.mem_singleton_self _))
    (fun h => (⟨k0_dev1 c, k0_dev1_lt c h⟩ : Dev nD)) (dev1_eq c) (oBr c))
  isplitr; · iexact HI
  isplitl [HO]; · iexact HO
  isplitl [HtL]; · iexact HtL
  isplitl [HkA HvA]
  · ihave H := (sep_Gd (HasL c) (slot c (hA khM)) (slot c (hA vhM))) $$ [HkA HvA]
    · isplitl [HkA] <;> iassumption
    iapply (give (HasL c) (barPay (prv c) true) (P := iprop(slot c (hA khM) ∗ slot c (hA vhM))) (A := reached ER (dCell c 9) 0) (B := reached ER (dCell c 11) 0) (by unfold barPay; rw [nxt_prv]; exact give_pay c _ _ _ _))
    isplitl [H]; · iexact H
    isplitr; · iexact Hr9
    iexact Hr11
  isplitr; · iexact HrL
  iintro HO
  iapply (step_signal_if D K c (nxt c) false (cond2_iff c) (fun h => by rw [duties_bar, if_pos (hasL_nxt c h)]; exact Finset.mem_union_left _ (Finset.mem_singleton_self _))
    (fun h => (⟨k0_dev2 c, k0_dev2_lt c h⟩ : Dev nD)) (dev2_eq c) (oRk c))
  isplitr; · iexact HI
  isplitl [HO]; · iexact HO
  isplitl [HtR]; · iexact HtR
  isplitl [HkB HvB]
  · ihave H := (sep_Gd (HasR c) (slot c (hB khM)) (slot c (hB vhM))) $$ [HkB HvB]
    · isplitl [HkB] <;> iassumption
    iapply (give (HasR c) (barPay (nxt c) false) (P := iprop(slot c (hB khM) ∗ slot c (hB vhM))) (A := reached ER (dCell c 10) 0) (B := reached ER (dCell c 12) 0) (by unfold barPay; rw [prv_nxt]; exact give_pay c _ _ _ _))
    isplitl [H]; · iexact H
    isplitr; · iexact Hr10
    iexact Hr12
  isplitr; · iexact HrR
  iintro HO
  iapply (step_zero_if c (isFirst_iff c) (M := vhM) (r := rA) (fun _ => rfl))
  isplitl [HvA']; · iexact HvA'
  iintro HvA'
  iapply (step_zero_if c (isLast_iff c) (M := vhM) (r := rB) (fun _ => rfl))
  isplitl [HvB']; · iexact HvB'
  iintro HvB'
  unfold WP; rw [wp_ret]; imodintro
  unfold r1 wd; iapply Hcont $$ Hc0 Hc1 Hc2 Hc3 Hc4 HO HkA' HkB' HvA' HvB'

/-- The barrier wait as the body spells it. -/
theorem barrier_word {α : Type} {X : Prog (TpuEff nD τ sig (Elt F) Λ₀ .tc) α} {Q : α → sProp 𝕄} :
    iprop(invs D K ∗ levAts L lv ∗ cred (tallyAt (barCell c) () ((if HasL c then 1 else 0) + (if HasR c then 1 else 0))) ∗ ow c (oRk c) ∗ atPos ER (barCell c) 0 ∅ 0
        ∗ (ow c (oRk c) -∗ over D (barCell c) -∗ Gd (HasL c) (barPay c false) -∗ Gd (HasR c) (barPay c true) -∗ WP c X Q))
      ⊢ WP c (.op (.semWait (SemArray.scalar (sig.barrier 0 rfl) : Sems sig S_).sem (k0_amt1 c).toInt) fun _ => X) Q := by
  rw [show (k0_amt1 c).toInt = (((if HasL c then 1 else 0) + (if HasR c then 1 else 0) : ℕ) : ℤ) by revert c; decide]
  exact step_barrier D K c _ rfl

theorem part2 (v4 v6 : BitVec 32) (Kt : IVec S256x256 32 → sProp 𝕄) :
    iprop(invs D K ∗ levAts L lv ∗ cred (tallyAt (barCell c) () ((if HasL c then 1 else 0) + (if HasR c then 1 else 0))) ∗ ow c (oRk c) ∗ atPos ER (barCell c) 0 ∅ 0 ∗ cred (tallyAt (dCell c 0) () (amt 0)) ∗ cred (tallyAt (dCell c 1) () (amt 1)) ∗ cred (tallyAt (dCell c 2) () (amt 2)) ∗ cred (tallyAt (dCell c 3) () (amt 3)) ∗ atPos ER (dCell c 0) 0 ∅ 0 ∗ atPos ER (dCell c 1) 0 ∅ 0 ∗ atPos ER (dCell c 2) 0 ∅ 0 ∗ atPos ER (dCell c 3) 0 ∅ 0 ∗ Gd (HasR c) (dutyTok ER (dCell c 5) 0 false) ∗ Gd (HasL c) (dutyTok ER (dCell c 6) 0 false) ∗ Gd (HasR c) (dutyTok ER (dCell c 7) 0 false) ∗ Gd (HasL c) (dutyTok ER (dCell c 8) 0 false) ∗ reached ER (dCell c 5) 0 ∗ reached ER (dCell c 6) 0 ∗ reached ER (dCell c 7) 0 ∗ reached ER (dCell c 8) 0 ∗ Gd (HasR c) (dutyTok ER (dCell (nxt c) 9) 0 false) ∗ Gd (HasL c) (dutyTok ER (dCell (prv c) 10) 0 false) ∗ Gd (HasR c) (dutyTok ER (dCell (nxt c) 11) 0 false) ∗ Gd (HasL c) (dutyTok ER (dCell (prv c) 12) 0 false)
        ∗ (ow c 0 -∗ over D (barCell c) -∗ over D (dCell c 0) -∗ over D (dCell c 1) -∗ over D (dCell c 2) -∗ over D (dCell c 3) -∗ mpt c kM fullShare.left (D c main_v2) -∗ mpt c vM fullShare.left (D c main_v4) -∗ mpt c xM fullShare (D c main_arg0) -∗ mpt c wqM fullShare (D c main_v9) -∗ mpt c hkM fullShare (D c main_v2) -∗ mpt c hvM fullShare (D c main_v4) -∗ mpt c hxM fullShare (D c main_arg0) -∗ mpt c hqM fullShare (D c main_v9) -∗ Gd (HasR c) (cred (tallyAt (dCell c 5) () (amt 5))) -∗ Gd (HasL c) (cred (tallyAt (dCell c 6) () (amt 6))) -∗ Gd (HasR c) (cred (tallyAt (dCell c 7) () (amt 7))) -∗ Gd (HasL c) (cred (tallyAt (dCell c 8) () (amt 8))) -∗ Gd (¬ HasR c) (mpt c (hB kM) fullShare.right (D c main_v2)) -∗ Gd (¬ HasL c) (mpt c (hA kM) fullShare.right (D c main_v2)) -∗ Gd (¬ HasR c) (mpt c (hB vM) fullShare.right (D c main_v4)) -∗ Gd (¬ HasL c) (mpt c (hA vM) fullShare.right (D c main_v4)) -∗ Kt k0_pay4))
      ⊢ WP c (P2 c (wd c) v4 v6 (SemArray.scalar (sig.barrier 0 rfl)) 0#32) Kt := by
  unfold P2 k0_part2_skel WP
  simp only [semSignalWord, semWaitWord, Prog.lift, Prog.bind_op, Prog.bind_ret, Prog.pure_eq_ret, wp_deviceId, ld_sem0, ld_sem1, ld_sem2, ld_sem3, ld_sem4, sd_sem0, sd_sem1, sd_sem2, sd_sem3, rv_sem0, rv_sem1, rv_sem2, rv_sem3]
  iintro ⟨#HI, #Hlev, Hcb, HO, Hab, Hc0, Hc1, Hc2, Hc3, Ha0, Ha1, Ha2, Ha3, Ht5, Ht6, Ht7, Ht8, #Hr5, #Hr6, #Hr7, #Hr8, Ht9, Ht10, Ht11, Ht12, Hcont⟩
  iapply (barrier_word D K c)
  isplitr; · iexact HI
  isplitr; · iexact Hlev
  isplitl [Hcb]; · iexact Hcb
  isplitl [HO]; · iexact HO
  isplitl [Hab]; · iexact Hab
  iintro HO Hvb HpL HpR
  iapply (step_wait D K c 0 trivial (oRk c) (mayWait_low c (.dma (dsem 0)) (Nat.zero_le 1)) (src := hkM) (dst := kM) rfl)
  isplitr; · iexact HI
  isplitr; · iexact Hlev
  isplitl [Hc0]; · iexact Hc0
  isplitl [HO]; · iexact HO
  isplitl [Ha0]; · iexact Ha0
  iintro HO Hv0 Hp0
  icases (Entails.of_eq (show dpay D c 0 = iprop(mpt c kM fullShare (D c main_v2) ∗ mpt c hkM fullShare (D c main_v2)) from rfl)) $$ Hp0 with ⟨Hd0, Hs0⟩
  iapply (step_wait D K c 1 trivial (oRk c) (mayWait_low c (.dma (dsem 1)) (Nat.zero_le 1)) (src := hvM) (dst := vM) rfl)
  isplitr; · iexact HI
  isplitr; · iexact Hlev
  isplitl [Hc1]; · iexact Hc1
  isplitl [HO]; · iexact HO
  isplitl [Ha1]; · iexact Ha1
  iintro HO Hv1 Hp1
  icases (Entails.of_eq (show dpay D c 1 = iprop(mpt c vM fullShare (D c main_v4) ∗ mpt c hvM fullShare (D c main_v4)) from rfl)) $$ Hp1 with ⟨Hd1, Hs1⟩
  unfold barPay
  icases (Gd_sep (HasL c) _ _) $$ HpL with ⟨HsK10, HpL⟩
  icases (Gd_sep (HasL c) _ _) $$ HpL with ⟨HsK12, HpL⟩
  icases (Gd_sep (HasL c) _ _) $$ HpL with ⟨Hr10, Hr12⟩
  icases (Gd_sep (HasR c) _ _) $$ HpR with ⟨HsK9, HpR⟩
  icases (Gd_sep (HasR c) _ _) $$ HpR with ⟨HsK11, HpR⟩
  icases (Gd_sep (HasR c) _ _) $$ HpR with ⟨Hr9, Hr11⟩
  icases (pointsTo_share (PosShare.mem_left_op_right fullShare)).mp $$ Hd0 with ⟨HkL, HkR⟩
  icases (halves c kM fullShare.right (D c main_v2)).mp $$ HkR with ⟨Hh6, Hh5⟩
  icases (pointsTo_share (PosShare.mem_left_op_right fullShare)).mp $$ Hd1 with ⟨HvL, HvR⟩
  icases (halves c vM fullShare.right (D c main_v4)).mp $$ HvR with ⟨Hh8, Hh7⟩
  iapply (step_send_if D K c 5 9 (nxt c) (cond5_iff c) (fun h => h) (fun h => hasL_nxt c h)
    (fun h => (⟨k0_dev3 c, k0_dev3_lt c h⟩ : Dev nD)) (dev3_eq c) (src := hB kM) (dst := hA khM) rfl rfl rfl rfl (D c main_v2)
    (fun _ => BI.Entails.refl _)
    (fun _ fd => by
      show _ ⊢ got (nxt c) (hA khM) ((hB kM).view.read (Elt F) (D (prv (nxt c)) main_v2))
      rw [prv_nxt]; unfold got
      iintro H; iexists ((hA khM).view.write (Elt F) fd ((hB kM).view.read (Elt F) (D c main_v2)) Finset.univ)
      isplitr; · ipureintro; exact View.read_write_univ (v := (hA khM).view) fd ((hB kM).view.read (Elt F) (D c main_v2))
      iexact H) (oLk c))
  isplitr; · iexact HI
  isplitl [Hh5]; · iexact Hh5
  isplitl [HsK9]; · iexact HsK9
  isplitl [HO]; · iexact HO
  isplitl [Ht5]; · iexact Ht5
  isplitr; · iexact Hr5
  isplitl [Ht9]; · iexact Ht9
  isplitl [Hr9]; · iexact Hr9
  iintro Hc5 Hh5 HO
  iapply (step_send_if D K c 6 10 (prv c) (cond6_iff c) (fun h => h) (fun h => hasR_prv c h)
    (fun h => (⟨k0_dev4 c, k0_dev4_lt c h⟩ : Dev nD)) (dev4_eq c) (src := hA kM) (dst := hB khM) rfl rfl rfl rfl (D c main_v2)
    (fun _ => BI.Entails.refl _)
    (fun _ fd => by
      show _ ⊢ got (prv c) (hB khM) ((hA kM).view.read (Elt F) (D (nxt (prv c)) main_v2))
      rw [nxt_prv]; unfold got
      iintro H; iexists ((hB khM).view.write (Elt F) fd ((hA kM).view.read (Elt F) (D c main_v2)) Finset.univ)
      isplitr; · ipureintro; exact View.read_write_univ (v := (hB khM).view) fd ((hA kM).view.read (Elt F) (D c main_v2))
      iexact H) (oRv c))
  isplitr; · iexact HI
  isplitl [Hh6]; · iexact Hh6
  isplitl [HsK10]; · iexact HsK10
  isplitl [HO]; · iexact HO
  isplitl [Ht6]; · iexact Ht6
  isplitr; · iexact Hr6
  isplitl [Ht10]; · iexact Ht10
  isplitl [Hr10]; · iexact Hr10
  iintro Hc6 Hh6 HO
  iapply (step_send_if D K c 7 11 (nxt c) (cond7_iff c) (fun h => h) (fun h => hasL_nxt c h)
    (fun h => (⟨k0_dev5 c, k0_dev5_lt c h⟩ : Dev nD)) (dev5_eq c) (src := hB vM) (dst := hA vhM) rfl rfl rfl rfl (D c main_v4)
    (fun _ => BI.Entails.refl _)
    (fun _ fd => by
      show _ ⊢ got (nxt c) (hA vhM) ((hB vM).view.read (Elt F) (D (prv (nxt c)) main_v4))
      rw [prv_nxt]; unfold got
      iintro H; iexists ((hA vhM).view.write (Elt F) fd ((hB vM).view.read (Elt F) (D c main_v4)) Finset.univ)
      isplitr; · ipureintro; exact View.read_write_univ (v := (hA vhM).view) fd ((hB vM).view.read (Elt F) (D c main_v4))
      iexact H) (oLv c))
  isplitr; · iexact HI
  isplitl [Hh7]; · iexact Hh7
  isplitl [HsK11]; · iexact HsK11
  isplitl [HO]; · iexact HO
  isplitl [Ht7]; · iexact Ht7
  isplitr; · iexact Hr7
  isplitl [Ht11]; · iexact Ht11
  isplitl [Hr11]; · iexact Hr11
  iintro Hc7 Hh7 HO
  iapply (step_send_if D K c 8 12 (prv c) (cond8_iff c) (fun h => h) (fun h => hasR_prv c h)
    (fun h => (⟨k0_dev6 c, k0_dev6_lt c h⟩ : Dev nD)) (dev6_eq c) (src := hA vM) (dst := hB vhM) rfl rfl rfl rfl (D c main_v4)
    (fun _ => BI.Entails.refl _)
    (fun _ fd => by
      show _ ⊢ got (prv c) (hB vhM) ((hA vM).view.read (Elt F) (D (nxt (prv c)) main_v4))
      rw [nxt_prv]; unfold got
      iintro H; iexists ((hB vhM).view.write (Elt F) fd ((hA vM).view.read (Elt F) (D c main_v4)) Finset.univ)
      isplitr; · ipureintro; exact View.read_write_univ (v := (hB vhM).view) fd ((hA vM).view.read (Elt F) (D c main_v4))
      iexact H) (0))
  isplitr; · iexact HI
  isplitl [Hh8]; · iexact Hh8
  isplitl [HsK12]; · iexact HsK12
  isplitl [HO]; · rw [zero_add]; iexact HO
  isplitl [Ht8]; · iexact Ht8
  isplitr; · iexact Hr8
  isplitl [Ht12]; · iexact Ht12
  isplitl [Hr12]; · iexact Hr12
  iintro Hc8 Hh8 HO
  iapply (step_wait D K c 2 trivial 0 (by rw [MayWait_zero]; iintro -; iempintro) (src := hxM) (dst := xM) rfl)
  isplitr; · iexact HI
  isplitr; · iexact Hlev
  isplitl [Hc2]; · iexact Hc2
  isplitl [HO]; · iexact HO
  isplitl [Ha2]; · iexact Ha2
  iintro HO Hv2 Hp2
  icases (Entails.of_eq (show dpay D c 2 = iprop(mpt c xM fullShare (D c main_arg0) ∗ mpt c hxM fullShare (D c main_arg0)) from rfl)) $$ Hp2 with ⟨Hd2, Hs2⟩
  iapply (step_wait D K c 3 trivial 0 (by rw [MayWait_zero]; iintro -; iempintro) (src := hqM) (dst := wqM) rfl)
  isplitr; · iexact HI
  isplitr; · iexact Hlev
  isplitl [Hc3]; · iexact Hc3
  isplitl [HO]; · iexact HO
  isplitl [Ha3]; · iexact Ha3
  iintro HO Hv3 Hp3
  icases (Entails.of_eq (show dpay D c 3 = iprop(mpt c wqM fullShare (D c main_v9) ∗ mpt c hqM fullShare (D c main_v9)) from rfl)) $$ Hp3 with ⟨Hd3, Hs3⟩
  unfold WP; rw [wp_ret]; imodintro
  iapply Hcont $$ HO Hvb Hv0 Hv1 Hv2 Hv3 HkL HvL Hd2 Hd3 Hs0 Hs1 Hs2 Hs3 Hc5 Hc6 Hc7 Hc8 Hh5 Hh6 Hh7 Hh8

end Cert.KernelIdeal.Win

end
-- ==== Proof.Waits.lean ====
/-
The parts of the body that wait for what the neighbours send, and the part that stores the first half of the result.
-/
module

public import proofs.«01_k».proof.Proof.Parts

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

/-- Part 7 on the launch's buffers. -/
abbrev P7 (v2 : BitVec 32) (v4 : BitVec 32) (v6 : BitVec 32) (v60 : IVec S256x256 1) (v130 : FVec F S256x512 .bf16) : Prog (TpuEff nD τ sig (Elt F) Λ₀ .tc) (Σ' (v182 : FVec F S256x64 .bf16) (v192 : FVec F S256x64 .f32) (v194 : FVec F S256x1 .f32) (v201 : IVec S256x256 32) (v202 : IVec S256x256 32) (v209 : IVec S256x256 1), IVec S256x256 32) :=
  k0_part7_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v2 v4 v6 v60 v130
/-- What part 7 of the body computes from what it reads. -/
def r7 (wq : wqM.view.ty.Contents (Elt F)) (k : kM.view.ty.Contents (Elt F)) (v : vM.view.ty.Contents (Elt F)) (v2 : BitVec 32) (v4 : BitVec 32) (v6 : BitVec 32) (v60 : IVec S256x256 1) (v130 : FVec F S256x512 .bf16) : (Σ' (v182 : FVec F S256x64 .bf16) (v192 : FVec F S256x64 .f32) (v194 : FVec F S256x1 .f32) (v201 : IVec S256x256 32) (v202 : IVec S256x256 32) (v209 : IVec S256x256 1), IVec S256x256 32) :=
  let v179 := wqM.view.readAt (Elt F) (Rect.unit (s := S4x512x64) ![3, 0, 0] S1x512x64.size inb_S4x512x64_S1x512x64_3_0_0).toLoadRect wq
  let v183 := kM.view.readAt (Elt F) (Rect.unit (s := S2x4x256x64) ![1, 3, 0, 0] S1x1x256x64.size inb_S2x4x256x64_S1x1x256x64_1_3_0_0).toLoadRect k
  let v190 := vM.view.readAt (Elt F) (Rect.unit (s := S2x4x256x64) ![1, 3, 0, 0] S1x1x256x64.size inb_S2x4x256x64_S1x1x256x64_1_3_0_0).toLoadRect v
  have v201 : IVec S256x256 32 := iota .tc S256x256 32 [0] iota_S256x256_d0_w32
  have v202 : IVec S256x256 32 := iota .tc S256x256 32 [1] iota_S256x256_d1_w32
  ⟨k0_pay40 v130 v179, k0_pay42 v60 v130 v179 v183 v190, k0_pay43 v60 v130 v179 v183, v201, v202, k0_pay44 v2, k0_pay45⟩
theorem part7 (wq : wqM.view.ty.Contents (Elt F)) (k : kM.view.ty.Contents (Elt F)) (v : vM.view.ty.Contents (Elt F)) (v4 : BitVec 32) (v6 : BitVec 32) (v60 : IVec S256x256 1) (v130 : FVec F S256x512 .bf16) (Kt : (Σ' (v182 : FVec F S256x64 .bf16) (v192 : FVec F S256x64 .f32) (v194 : FVec F S256x1 .f32) (v201 : IVec S256x256 32) (v202 : IVec S256x256 32) (v209 : IVec S256x256 1), IVec S256x256 32) → sProp 𝕄) :
    iprop(invs D K ∗ levAts L lv ∗ mpt c wqM fullShare wq ∗ mpt c kM fullShare.left k ∗ mpt c vM fullShare.left v ∗ ow c 0 ∗ Gd (used c 9) (cred (tallyAt (dCell c 9) () (amt 9))) ∗ Gd (used c 10) (cred (tallyAt (dCell c 10) () (amt 10))) ∗ atPos ER (dCell c 9) 0 ∅ 0 ∗ atPos ER (dCell c 10) 0 ∅ 0
        ∗ (mpt c wqM fullShare wq -∗ mpt c kM fullShare.left k -∗ mpt c vM fullShare.left v -∗ ow c 0 -∗ over D (dCell c 9) -∗ over D (dCell c 10) -∗ Gd (used c 9) (dpay D c 9) -∗ Gd (used c 10) (dpay D c 10) -∗ Kt (r7 wq k v (wd c) v4 v6 v60 v130)))
      ⊢ WP c (P7 (wd c) v4 v6 v60 v130) Kt := by
  unfold P7 k0_part7_skel
  simp only [Prog.lift, Prog.bind_op, Prog.bind_ret, Prog.pure_eq_ret, ld_sem4, sd_sem0, sd_sem1, sd_sem2, sd_sem3, rv_sem0, rv_sem1, rv_sem2, rv_sem3]
  iintro ⟨#HI, #Hlev, Hwq, Hk, Hv, HO, Hc9, Hc10, Ha9, Ha10, Hcont⟩
  iapply (step_load c (M := wqM) (q := fullShare) (f := wq))
  isplitl [Hwq]; · iexact Hwq
  iintro Hwq
  iapply (step_load c (M := kM) (q := fullShare.left) (f := k))
  isplitl [Hk]; · iexact Hk
  iintro Hk
  iapply (step_load c (M := vM) (q := fullShare.left) (f := v))
  isplitl [Hv]; · iexact Hv
  iintro Hv
  iapply (step_wait_if D K c 9 (hasL_iff c) (src := hB kM) (dst := hA khM) rfl)
  isplitr; · iexact HI
  isplitr; · iexact Hlev
  isplitl [Hc9]; · iexact Hc9
  isplitl [HO]; · iexact HO
  isplitl [Ha9]; · iexact Ha9
  iintro HO Hv9 Hp9
  iapply (step_wait_if D K c 10 (hasR_iff c) (src := hA kM) (dst := hB khM) rfl)
  isplitr; · iexact HI
  isplitr; · iexact Hlev
  isplitl [Hc10]; · iexact Hc10
  isplitl [HO]; · iexact HO
  isplitl [Ha10]; · iexact Ha10
  iintro HO Hv10 Hp10
  unfold WP; rw [wp_ret]; imodintro
  unfold r7; iapply Hcont $$ Hwq Hk Hv HO Hv9 Hv10 Hp9 Hp10

/-- Part 9 on the launch's buffers. -/
abbrev P9 (v2 : BitVec 32) (v4 : BitVec 32) (v6 : BitVec 32) (v134 : FVec F S256x64 .bf16) (v150 : FVec F S256x64 .bf16) (v166 : FVec F S256x64 .bf16) (v182 : FVec F S256x64 .bf16) (v217 : IVec S256x256 1) : Prog (TpuEff nD τ sig (Elt F) Λ₀ .tc) (Σ' (v247 : FVec F S256x256 .f32) (v253 : FVec F S256x256 .f32) (v259 : FVec F S256x256 .f32), FVec F S256x256 .f32) :=
  k0_part9_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v2 v4 v6 v134 v150 v166 v182 v217
/-- What part 9 of the body computes from what it reads. -/
def r9 (kh : khM.view.ty.Contents (Elt F)) (v2 : BitVec 32) (v4 : BitVec 32) (v6 : BitVec 32) (v134 : FVec F S256x64 .bf16) (v150 : FVec F S256x64 .bf16) (v166 : FVec F S256x64 .bf16) (v182 : FVec F S256x64 .bf16) (v217 : IVec S256x256 1) : (Σ' (v247 : FVec F S256x256 .f32) (v253 : FVec F S256x256 .f32) (v259 : FVec F S256x256 .f32), FVec F S256x256 .f32) :=
  let v242 := khM.view.readAt (Elt F) (Rect.unit (s := S2x4x256x64) ![1, 0, 0, 0] S1x1x256x64.size inb_S2x4x256x64_S1x1x256x64_1_0_0_0).toLoadRect kh
  let v248 := khM.view.readAt (Elt F) (Rect.unit (s := S2x4x256x64) ![1, 1, 0, 0] S1x1x256x64.size inb_S2x4x256x64_S1x1x256x64_1_1_0_0).toLoadRect kh
  let v254 := khM.view.readAt (Elt F) (Rect.unit (s := S2x4x256x64) ![1, 2, 0, 0] S1x1x256x64.size inb_S2x4x256x64_S1x1x256x64_1_2_0_0).toLoadRect kh
  let v260 := khM.view.readAt (Elt F) (Rect.unit (s := S2x4x256x64) ![1, 3, 0, 0] S1x1x256x64.size inb_S2x4x256x64_S1x1x256x64_1_3_0_0).toLoadRect kh
  ⟨k0_pay51 v134 v217 v242, k0_pay52 v150 v217 v248, k0_pay53 v166 v217 v254, k0_pay54 v182 v217 v260⟩
theorem part9 (kh : khM.view.ty.Contents (Elt F)) (v4 : BitVec 32) (v6 : BitVec 32) (v134 : FVec F S256x64 .bf16) (v150 : FVec F S256x64 .bf16) (v166 : FVec F S256x64 .bf16) (v182 : FVec F S256x64 .bf16) (v217 : IVec S256x256 1) (Kt : (Σ' (v247 : FVec F S256x256 .f32) (v253 : FVec F S256x256 .f32) (v259 : FVec F S256x256 .f32), FVec F S256x256 .f32) → sProp 𝕄) :
    iprop(invs D K ∗ levAts L lv ∗ mpt c khM fullShare kh ∗ ow c 0 ∗ Gd (used c 11) (cred (tallyAt (dCell c 11) () (amt 11))) ∗ Gd (used c 12) (cred (tallyAt (dCell c 12) () (amt 12))) ∗ atPos ER (dCell c 11) 0 ∅ 0 ∗ atPos ER (dCell c 12) 0 ∅ 0
        ∗ (mpt c khM fullShare kh -∗ ow c 0 -∗ over D (dCell c 11) -∗ over D (dCell c 12) -∗ Gd (used c 11) (dpay D c 11) -∗ Gd (used c 12) (dpay D c 12) -∗ Kt (r9 kh (wd c) v4 v6 v134 v150 v166 v182 v217)))
      ⊢ WP c (P9 (wd c) v4 v6 v134 v150 v166 v182 v217) Kt := by
  unfold P9 k0_part9_skel
  simp only [Prog.lift, Prog.bind_op, Prog.bind_ret, Prog.pure_eq_ret, ld_sem4, sd_sem0, sd_sem1, sd_sem2, sd_sem3, rv_sem0, rv_sem1, rv_sem2, rv_sem3]
  iintro ⟨#HI, #Hlev, Hkh, HO, Hc11, Hc12, Ha11, Ha12, Hcont⟩
  iapply (step_load c (M := khM) (q := fullShare) (f := kh))
  isplitl [Hkh]; · iexact Hkh
  iintro Hkh
  iapply (step_load c (M := khM) (q := fullShare) (f := kh))
  isplitl [Hkh]; · iexact Hkh
  iintro Hkh
  iapply (step_load c (M := khM) (q := fullShare) (f := kh))
  isplitl [Hkh]; · iexact Hkh
  iintro Hkh
  iapply (step_load c (M := khM) (q := fullShare) (f := kh))
  isplitl [Hkh]; · iexact Hkh
  iintro Hkh
  iapply (step_wait_if D K c 11 (hasL_iff c) (src := hB vM) (dst := hA vhM) rfl)
  isplitr; · iexact HI
  isplitr; · iexact Hlev
  isplitl [Hc11]; · iexact Hc11
  isplitl [HO]; · iexact HO
  isplitl [Ha11]; · iexact Ha11
  iintro HO Hv11 Hp11
  iapply (step_wait_if D K c 12 (hasR_iff c) (src := hA vM) (dst := hB vhM) rfl)
  isplitr; · iexact HI
  isplitr; · iexact Hlev
  isplitl [Hc12]; · iexact Hc12
  isplitl [HO]; · iexact HO
  isplitl [Ha12]; · iexact Ha12
  iintro HO Hv12 Hp12
  unfold WP; rw [wp_ret]; imodintro
  unfold r9; iapply Hcont $$ Hkh HO Hv11 Hv12 Hp11 Hp12

/-- Part 10 on the launch's buffers. -/
abbrev P10 (v2 : BitVec 32) (v77 : FVec F S256x64 .f32) (v79 : FVec F S256x1 .f32) (v93 : FVec F S256x64 .f32) (v223 : FVec F S256x256 .f32) (v229 : FVec F S256x256 .f32) : Prog (TpuEff nD τ sig (Elt F) Λ₀ .tc) (Σ' (v294 : FVec F S256x512 .f32), FVec F S256x64 .f32) :=
  k0_part10_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v2 v77 v79 v93 v223 v229
/-- What part 10 of the body computes from what it reads. -/
def r10 (vh : vhM.view.ty.Contents (Elt F)) (wo : woM.view.ty.Contents (Elt F)) (v2 : BitVec 32) (v77 : FVec F S256x64 .f32) (v79 : FVec F S256x1 .f32) (v93 : FVec F S256x64 .f32) (v223 : FVec F S256x256 .f32) (v229 : FVec F S256x256 .f32) : (Σ' (v294 : FVec F S256x512 .f32), FVec F S256x64 .f32) :=
  let v282 := vhM.view.readAt (Elt F) (Rect.unit (s := S2x4x256x64) ![0, 0, 0, 0] S1x1x256x64.size inb_S2x4x256x64_S1x1x256x64_0_0_0_0).toLoadRect vh
  let v292 := woM.view.readAt (Elt F) (Rect.unit (s := S256x512) ![0, 0] S64x512.size inb_S256x512_S64x512_0_0).toLoadRect wo
  let v296 := vhM.view.readAt (Elt F) (Rect.unit (s := S2x4x256x64) ![0, 1, 0, 0] S1x1x256x64.size inb_S2x4x256x64_S1x1x256x64_0_1_0_0).toLoadRect vh
  ⟨k0_pay55 v77 v79 v223 v282 v292, k0_pay56 v93 v229 v296⟩
theorem part10 (vh : vhM.view.ty.Contents (Elt F)) (v77 : FVec F S256x64 .f32) (v79 : FVec F S256x1 .f32) (v93 : FVec F S256x64 .f32) (v223 : FVec F S256x256 .f32) (v229 : FVec F S256x256 .f32) (Kt : (Σ' (v294 : FVec F S256x512 .f32), FVec F S256x64 .f32) → sProp 𝕄) :
    iprop(invs D K ∗ levAts L lv ∗ mpt c vhM fullShare vh ∗ ow c 0 ∗ Gd (used c 5) (cred (tallyAt (dCell c 5) () (amt 5))) ∗ Gd (used c 7) (cred (tallyAt (dCell c 7) () (amt 7))) ∗ Gd (used c 6) (cred (tallyAt (dCell c 6) () (amt 6))) ∗ Gd (used c 8) (cred (tallyAt (dCell c 8) () (amt 8))) ∗ cred (tallyAt (dCell c 4) () (amt 4)) ∗ atPos ER (dCell c 5) 0 ∅ 0 ∗ atPos ER (dCell c 7) 0 ∅ 0 ∗ atPos ER (dCell c 6) 0 ∅ 0 ∗ atPos ER (dCell c 8) 0 ∅ 0 ∗ atPos ER (dCell c 4) 0 ∅ 0
        ∗ (mpt c vhM fullShare vh -∗ mpt c woM fullShare (D c main_v10) -∗ ow c 0 -∗ over D (dCell c 5) -∗ over D (dCell c 7) -∗ over D (dCell c 6) -∗ over D (dCell c 8) -∗ over D (dCell c 4) -∗ Gd (used c 5) (dpay D c 5) -∗ Gd (used c 7) (dpay D c 7) -∗ Gd (used c 6) (dpay D c 6) -∗ Gd (used c 8) (dpay D c 8) -∗ mpt c hoM fullShare (D c main_v10) -∗ Kt (r10 vh (D c main_v10) (wd c) v77 v79 v93 v223 v229)))
      ⊢ WP c (P10 (wd c) v77 v79 v93 v223 v229) Kt := by
  unfold P10 k0_part10_skel
  simp only [Prog.lift, Prog.bind_op, Prog.bind_ret, Prog.pure_eq_ret, ld_sem4, sd_sem0, sd_sem1, sd_sem2, sd_sem3, rv_sem0, rv_sem1, rv_sem2, rv_sem3]
  iintro ⟨#HI, #Hlev, Hvh, HO, Hc5, Hc7, Hc6, Hc8, Hc4, Ha5, Ha7, Ha6, Ha8, Ha4, Hcont⟩
  iapply (step_wait2_if D K c 5 7 (hasR_iff c) (hasR_iff c) (src := hA khM) (dst := hB kM) (src' := hA vhM) (dst' := hB vM) rfl rfl)
  isplitr; · iexact HI
  isplitr; · iexact Hlev
  isplitl [Hc5]; · iexact Hc5
  isplitl [Hc7]; · iexact Hc7
  isplitl [HO]; · iexact HO
  isplitl [Ha5]; · iexact Ha5
  isplitl [Ha7]; · iexact Ha7
  iintro HO Hv5 Hv7 Hp5 Hp7
  iapply (step_wait2_if D K c 6 8 (hasL_iff c) (hasL_iff c) (src := hB khM) (dst := hA kM) (src' := hB vhM) (dst' := hA vM) rfl rfl)
  isplitr; · iexact HI
  isplitr; · iexact Hlev
  isplitl [Hc6]; · iexact Hc6
  isplitl [Hc8]; · iexact Hc8
  isplitl [HO]; · iexact HO
  isplitl [Ha6]; · iexact Ha6
  isplitl [Ha8]; · iexact Ha8
  iintro HO Hv6 Hv8 Hp6 Hp8
  iapply (step_wait D K c 4 trivial 0 (by rw [MayWait_zero]; iintro -; iempintro) (src := hoM) (dst := woM) rfl)
  isplitr; · iexact HI
  isplitr; · iexact Hlev
  isplitl [Hc4]; · iexact Hc4
  isplitl [HO]; · iexact HO
  isplitl [Ha4]; · iexact Ha4
  iintro HO Hv4 Hp4
  icases (Entails.of_eq (show dpay D c 4 = iprop(mpt c woM fullShare (D c main_v10) ∗ mpt c hoM fullShare (D c main_v10)) from rfl)) $$ Hp4 with ⟨Hwo, Hho⟩
  iapply (step_load c (M := vhM) (q := fullShare) (f := vh))
  isplitl [Hvh]; · iexact Hvh
  iintro Hvh
  iapply (step_load c (M := woM) (q := fullShare) (f := D c main_v10))
  isplitl [Hwo]; · iexact Hwo
  iintro Hwo
  iapply (step_load c (M := vhM) (q := fullShare) (f := vh))
  isplitl [Hvh]; · iexact Hvh
  iintro Hvh
  unfold WP; rw [wp_ret]; imodintro
  unfold r10; iapply Hcont $$ Hvh Hwo HO Hv5 Hv7 Hv6 Hv8 Hv4 Hp5 Hp7 Hp6 Hp8 Hho

/-- The result's first and second block. -/
abbrev oR0 : Rect S2x256x512 := (Rect.unit (s := S2x256x512) ![0, 0, 0] S1x256x512.size inb_S2x256x512_S1x256x512_0_0_0)
abbrev oR1 : Rect S2x256x512 := (Rect.unit (s := S2x256x512) ![1, 0, 0] S1x256x512.size inb_S2x256x512_S1x256x512_1_0_0)

/-- Part 12 on the launch's buffers. -/
abbrev P12 (v144 : FVec F S256x64 .f32) (v146 : FVec F S256x1 .f32) (v160 : FVec F S256x64 .f32) (v162 : FVec F S256x1 .f32) (v247 : FVec F S256x256 .f32) (v253 : FVec F S256x256 .f32) (v259 : FVec F S256x256 .f32) (v336 : FVec F S256x512 .f32) : Prog (TpuEff nD τ sig (Elt F) Λ₀ .tc) (Σ' (v368 : FVec F S256x512 .f32) (v369 : FVec F S256x256 .bf16), FVec F S256x64 .bf16) :=
  k0_part12_skel hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9 v144 v146 v160 v162 v247 v253 v259 v336
/-- What part 12 of the body computes from what it reads. -/
def r12 (o : oM.view.ty.Contents (Elt F)) (vh : vhM.view.ty.Contents (Elt F)) (wo : woM.view.ty.Contents (Elt F)) (v144 : FVec F S256x64 .f32) (v146 : FVec F S256x1 .f32) (v160 : FVec F S256x64 .f32) (v162 : FVec F S256x1 .f32) (v247 : FVec F S256x256 .f32) (v253 : FVec F S256x256 .f32) (v259 : FVec F S256x256 .f32) (v336 : FVec F S256x512 .f32) : (Σ' (v368 : FVec F S256x512 .f32) (v369 : FVec F S256x256 .bf16), FVec F S256x64 .bf16) :=
  let v342 := vhM.view.readAt (Elt F) (Rect.unit (s := S2x4x256x64) ![1, 0, 0, 0] S1x1x256x64.size inb_S2x4x256x64_S1x1x256x64_1_0_0_0).toLoadRect vh
  let v352 := woM.view.readAt (Elt F) (Rect.unit (s := S256x512) ![0, 0] S64x512.size inb_S256x512_S64x512_0_0).toLoadRect wo
  let v356 := vhM.view.readAt (Elt F) (Rect.unit (s := S2x4x256x64) ![1, 1, 0, 0] S1x1x256x64.size inb_S2x4x256x64_S1x1x256x64_1_1_0_0).toLoadRect vh
  let v366 := woM.view.readAt (Elt F) (Rect.unit (s := S256x512) ![64, 0] S64x512.size inb_S256x512_S64x512_64_0).toLoadRect wo
  let v370 := vhM.view.readAt (Elt F) (Rect.unit (s := S2x4x256x64) ![1, 2, 0, 0] S1x1x256x64.size inb_S2x4x256x64_S1x1x256x64_1_2_0_0).toLoadRect vh
  ⟨k0_pay59 v144 v146 v160 v162 v247 v253 v342 v352 v356 v366, k0_pay60 v259, k0_pay61 v370⟩
theorem part12 (o : oM.view.ty.Contents (Elt F)) (vh : vhM.view.ty.Contents (Elt F)) (wo : woM.view.ty.Contents (Elt F)) (v144 : FVec F S256x64 .f32) (v146 : FVec F S256x1 .f32) (v160 : FVec F S256x64 .f32) (v162 : FVec F S256x1 .f32) (v247 : FVec F S256x256 .f32) (v253 : FVec F S256x256 .f32) (v259 : FVec F S256x256 .f32) (v336 : FVec F S256x512 .f32) (Kt : (Σ' (v368 : FVec F S256x512 .f32) (v369 : FVec F S256x256 .bf16), FVec F S256x64 .bf16) → sProp 𝕄) :
    iprop(invs D K ∗ levAts L lv ∗ mpt c oM fullShare o ∗ mpt c vhM fullShare vh ∗ mpt c woM fullShare wo ∗ emp
        ∗ (mpt c oM fullShare ((oM.access oR0).write (Elt F) o (k0_pay58 v336) Finset.univ) -∗ mpt c vhM fullShare vh -∗ mpt c woM fullShare wo -∗ emp -∗ Kt (r12 o vh wo v144 v146 v160 v162 v247 v253 v259 v336)))
      ⊢ WP c (P12 v144 v146 v160 v162 v247 v253 v259 v336) Kt := by
  unfold P12 k0_part12_skel
  simp only [Prog.lift, Prog.bind_op, Prog.bind_ret, Prog.pure_eq_ret, ld_sem4, sd_sem0, sd_sem1, sd_sem2, sd_sem3, rv_sem0, rv_sem1, rv_sem2, rv_sem3]
  iintro ⟨#HI, #Hlev, Ho, Hvh, Hwo, -, Hcont⟩
  iapply (step_load c (M := oM) (q := fullShare) (f := o))
  isplitl [Ho]; · iexact Ho
  iintro Ho
  iapply (step_store c (M := oM) (f := o))
  isplitl [Ho]; · iexact Ho
  iintro Ho
  iapply (step_load c (M := vhM) (q := fullShare) (f := vh))
  isplitl [Hvh]; · iexact Hvh
  iintro Hvh
  iapply (step_load c (M := woM) (q := fullShare) (f := wo))
  isplitl [Hwo]; · iexact Hwo
  iintro Hwo
  iapply (step_load c (M := vhM) (q := fullShare) (f := vh))
  isplitl [Hvh]; · iexact Hvh
  iintro Hvh
  iapply (step_load c (M := woM) (q := fullShare) (f := wo))
  isplitl [Hwo]; · iexact Hwo
  iintro Hwo
  iapply (step_load c (M := vhM) (q := fullShare) (f := vh))
  isplitl [Hvh]; · iexact Hvh
  iintro Hvh
  unfold WP; rw [wp_ret]; imodintro
  unfold r12; iapply Hcont $$ Ho Hvh Hwo []
  iempintro

end Cert.KernelIdeal.Win

end
-- ==== Proof.Body.lean ====
/-
The body whole: from what device `c` holds when its body starts to what it holds at the end — the arrays back, every
cell closed at counter zero, and the output tile at `outF`, a function of the device's own data and of what its halo
buffers hold. Of a halo buffer only the halves a neighbour filled are known (and the cleared ones of the value halo).
-/
module

public import proofs.«01_k».proof.Proof.Start
public import proofs.«01_k».proof.Proof.Waits

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

/-- A family over the thirteen cells, conjoined. -/
def all13 (Φ : Fin 13 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12)
omit [FloatOps F] in
theorem all13_eq (Φ : Fin 13 → sProp 𝕄) : bigSep Finset.univ Φ = all13 Φ :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

/-- The duties device `c` pays with: its loads, its sends, its neighbours' receives and its neighbours' barriers. -/
def toks (c : Dev nD) : sProp 𝕄 :=
  iprop(dutyTok ER (dCell c 0) 0 false ∗ dutyTok ER (dCell c 1) 0 false ∗ dutyTok ER (dCell c 2) 0 false ∗ dutyTok ER (dCell c 3) 0 false ∗ dutyTok ER (dCell c 4) 0 false ∗ dutyTok ER (dCell c 5) 0 false ∗ dutyTok ER (dCell c 6) 0 false ∗ dutyTok ER (dCell c 7) 0 false ∗ dutyTok ER (dCell c 8) 0 false
    ∗ dutyTok ER (dCell (nxt c) 9) 0 false ∗ dutyTok ER (dCell (prv c) 10) 0 false ∗ dutyTok ER (dCell (nxt c) 11) 0 false ∗ dutyTok ER (dCell (prv c) 12) 0 false
    ∗ dutyTok ER (barCell (prv c)) 0 true ∗ dutyTok ER (barCell (nxt c)) 0 false)

/-- The protocol's state once the cells are open. -/
def opened (D : Data F) (K : GSem nD τ sig → ℕ) (c : Dev nD) : sProp 𝕄 :=
  iprop(invs D K ∗ atPos ER (barCell c) 0 ∅ 0 ∗ all13 (fun k => atPos ER (dCell c k) 0 ∅ 0) ∗ all13 (fun k => reached ER (dCell c k) 0)
    ∗ reached ER (barCell (prv c)) 0 ∗ reached ER (barCell (nxt c)) 0 ∗ toks c)

/-- The credit device `c` waits with. -/
def creds (c : Dev nD) : sProp 𝕄 :=
  iprop(cred (tallyAt (barCell c) () ((if HasL c then 1 else 0) + (if HasR c then 1 else 0)))
    ∗ Gd (used c 9) (cred (tallyAt (dCell c 9) () (amt 9))) ∗ Gd (used c 10) (cred (tallyAt (dCell c 10) () (amt 10))) ∗ Gd (used c 11) (cred (tallyAt (dCell c 11) () (amt 11))) ∗ Gd (used c 12) (cred (tallyAt (dCell c 12) () (amt 12))))

/-- The arrays the body reads. -/
def arrs (D : Data F) (c : Dev nD) : sProp 𝕄 :=
  iprop(mpt c hxM fullShare (D c main_arg0) ∗ mpt c hqM fullShare (D c main_v9) ∗ mpt c hkM fullShare (D c main_v2) ∗ mpt c hvM fullShare (D c main_v4) ∗ mpt c hoM fullShare (D c main_v10))
/-- The scratch buffers. -/
def scr (c : Dev nD) : sProp 𝕄 :=
  iprop((∃ f, mpt c xM fullShare f) ∗ (∃ f, mpt c wqM fullShare f) ∗ (∃ f, mpt c kM fullShare f) ∗ (∃ f, mpt c vM fullShare f) ∗ (∃ f, mpt c woM fullShare f) ∗ (∃ f, mpt c khM fullShare f) ∗ (∃ f, mpt c vhM fullShare f))

/-- What is known of the halo buffers when the body computes with them. -/
def Halo (D : Data F) (c : Dev nD) (kh : khM.view.ty.Contents (Elt F)) (vh : vhM.view.ty.Contents (Elt F)) : Prop :=
  (HasL c → (hA khM).view.read (Elt F) kh = (hB kM).view.read (Elt F) (D (prv c) main_v2))
  ∧ (HasR c → (hB khM).view.read (Elt F) kh = (hA kM).view.read (Elt F) (D (nxt c) main_v2))
  ∧ (HasL c → (hA vhM).view.read (Elt F) vh = (hB vM).view.read (Elt F) (D (prv c) main_v4))
  ∧ (HasR c → (hB vhM).view.read (Elt F) vh = (hA vM).view.read (Elt F) (D (nxt c) main_v4))
  ∧ (¬ HasL c → (hA vhM).view.read (Elt F) vh = k0_pay2)
  ∧ (¬ HasR c → (hB vhM).view.read (Elt F) vh = k0_pay3)

/-- The two batches' outputs, from what the buffers hold. -/
def outs (c : Dev nD) (x : xM.view.ty.Contents (Elt F)) (wq : wqM.view.ty.Contents (Elt F)) (k : kM.view.ty.Contents (Elt F)) (v : vM.view.ty.Contents (Elt F))
    (wo : woM.view.ty.Contents (Elt F)) (kh : khM.view.ty.Contents (Elt F)) (vh : vhM.view.ty.Contents (Elt F)) (o : oM.view.ty.Contents (Elt F)) :
    FVec F S1x256x512 .f32 × FVec F S1x256x512 .f32 :=
  match r3 x wq k v k0_pay4 with
  | ⟨v60, v63, v67, v77, v79, v83, v87, v88⟩ =>
  match r4 v wq k v60 v63 v87 v88 with
  | ⟨v93, v95, v99, v109, v111, v115, v117, cst_88⟩ =>
  match r5 v x wq k v60 v115 v117 cst_88 with
  | ⟨v125, v127, v130, v134, v144, v146, v148⟩ =>
  match r6 k v wq v60 v130 v148 with
  | ⟨v150, v160, v162, v166, v176, v178⟩ =>
  match r7 wq k v (wd c) (Scalar.maxsi (Scalar.subi (wd c) 1#32) 0#32) (Scalar.minsi (Scalar.addi (wd c) 1#32) 7#32) v60 v130 with
  | ⟨v182, v192, v194, v201, v202, v209, v210⟩ =>
  match r8 kh (wd c) v67 v83 v99 v115 v201 v202 v209 v210 with
  | ⟨v217, v223, v229, v235, v241⟩ =>
  match r9 kh (wd c) (Scalar.maxsi (Scalar.subi (wd c) 1#32) 0#32) (Scalar.minsi (Scalar.addi (wd c) 1#32) 7#32) v134 v150 v166 v182 v217 with
  | ⟨v247, v253, v259, v265⟩ =>
  match r10 vh wo (wd c) v77 v79 v93 v223 v229 with
  | ⟨v294, v299⟩ =>
  match r12 o vh wo v144 v146 v160 v162 v247 v253 v259 (r11 wo vh v95 v109 v111 v125 v127 v229 v235 v241 v294 v299) with
  | ⟨v368, v369, v371⟩ =>
  (k0_pay58 (r11 wo vh v95 v109 v111 v125 v127 v229 v235 v241 v294 v299), k0_pay1 v176 v178 v192 v194 v259 v265 v368 v369 v371 (woM.view.readAt (Elt F) (Rect.unit (s := S256x512) ![128, 0] S64x512.size inb_S256x512_S64x512_128_0).toLoadRect wo) (vhM.view.readAt (Elt F) (Rect.unit (s := S2x4x256x64) ![1, 3, 0, 0] S1x1x256x64.size inb_S2x4x256x64_S1x1x256x64_1_3_0_0).toLoadRect vh) (woM.view.readAt (Elt F) (Rect.unit (s := S256x512) ![192, 0] S64x512.size inb_S256x512_S64x512_192_0).toLoadRect wo))

/-- The output tile after the body. -/
def outF (D : Data F) (c : Dev nD) (kh : khM.view.ty.Contents (Elt F)) (vh : vhM.view.ty.Contents (Elt F)) (o : oM.view.ty.Contents (Elt F)) : oM.view.ty.Contents (Elt F) :=
  let X := outs c (D c main_arg0) (D c main_v9) (D c main_v2) (D c main_v4) (D c main_v10) kh vh o
  (oM.access oR1).write (Elt F) ((oM.access oR0).write (Elt F) o X.1 Finset.univ) X.2 Finset.univ

omit [FloatOps F] in
theorem weaken (p : Prop) [Decidable p] (P : sProp 𝕄) : P ⊢ Gd p P := by
  by_cases hp : p
  · rw [Gd_pos hp]
  · rw [Gd_neg hp]; iintro -; iempintro

omit [FloatOps F] in
/-- A half a neighbour filled, or held untouched. -/
theorem recv_or (p : Prop) [Decidable p] (c : Dev nD) (H : Memref sig .tc .vmem S2x4x128x64 .bf16) (w : S2x4x128x64.Idx → Elt F .bf16) :
    iprop(Gd p (got c H w) ∗ Gd (¬ p) (slot c H)) ⊢ (iprop(∃ f : Buf (Elt F) (H.view.loc (c : Thread nD τ)), ⌜p → H.view.read (Elt F) f = w⌝ ∗ mpt c H fullShare f) : sProp 𝕄) := by
  unfold got slot
  by_cases hp : p
  · rw [Gd_pos hp, Gd_neg (not_not.mpr hp)]
    iintro ⟨⟨%f, %h, H⟩, -⟩
    iexists f; isplitr; · ipureintro; exact fun _ => h
    iexact H
  · rw [Gd_neg hp, Gd_pos hp]
    iintro ⟨-, ⟨%f, H⟩⟩
    iexists f; isplitr; · ipureintro; exact fun h => absurd h hp
    iexact H
omit [FloatOps F] in
/-- A half a neighbour filled, or cleared. -/
theorem recv_or_got (p : Prop) [Decidable p] (c : Dev nD) (H : Memref sig .tc .vmem S2x4x128x64 .bf16) (w w' : S2x4x128x64.Idx → Elt F .bf16) :
    iprop(Gd p (got c H w) ∗ Gd (¬ p) (got c H w')) ⊢ (iprop(∃ f : Buf (Elt F) (H.view.loc (c : Thread nD τ)), ⌜(p → H.view.read (Elt F) f = w) ∧ (¬ p → H.view.read (Elt F) f = w')⌝ ∗ mpt c H fullShare f) : sProp 𝕄) := by
  unfold got
  by_cases hp : p
  · rw [Gd_pos hp, Gd_neg (not_not.mpr hp)]
    iintro ⟨⟨%f, %h, H⟩, -⟩
    iexists f; isplitr; · ipureintro; exact ⟨fun _ => h, fun h' => absurd hp h'⟩
    iexact H
  · rw [Gd_neg hp, Gd_pos hp]
    iintro ⟨-, ⟨%f, %h, H⟩⟩
    iexists f; isplitr; · ipureintro; exact ⟨fun h' => absurd h' hp, fun _ => h⟩
    iexact H

/-- The lent half shares come back, or were never lent. -/
theorem rejoin (c : Dev nD) (M : Memref sig .tc .vmem S2x4x256x64 .bf16) (f : Buf (Elt F) (M.view.loc (c : Thread nD τ))) (p q : Prop) [Decidable p] [Decidable q] :
    iprop(mpt c M fullShare.left f ∗ (Gd p (mpt c (hA M) fullShare.right f) ∗ Gd (¬ p) (mpt c (hA M) fullShare.right f))
      ∗ (Gd q (mpt c (hB M) fullShare.right f) ∗ Gd (¬ q) (mpt c (hB M) fullShare.right f))) ⊢ (mpt c M fullShare f : sProp 𝕄) := by
  iintro ⟨HL, HA, HB⟩
  ihave HA := (Gd_join p _) $$ HA
  ihave HB := (Gd_join q _) $$ HB
  iapply (pointsTo_share (PosShare.mem_left_op_right fullShare)).mpr
  isplitl [HL]; · iexact HL
  iapply (halves c M fullShare.right f).mpr
  isplitl [HA] <;> iassumption

/-- What the body leaves. -/
def left (D : Data F) (c : Dev nD) (o : oM.view.ty.Contents (Elt F)) : sProp 𝕄 :=
  iprop(semVal (barCell c) 0 ∗ all13 (fun k => semVal (dCell c k) 0) ∗ arrs D c ∗ scr c ∗ ow c 0
    ∗ ∃ kh vh, ⌜Halo D c kh vh⌝ ∗ mpt c oM fullShare (outF D c kh vh o))

theorem bind_part (c : Dev nD) {α β : Type} (X : Prog (TpuEff nD τ sig (Elt F) Λ₀ .tc) α) (k : α → Prog (TpuEff nD τ sig (Elt F) Λ₀ .tc) β) (Q : β → sProp 𝕄) :
    WP c (X >>= k) Q = WP c X (fun a => WP c (k a) Q) := wp_bind _ _ _ _ _ _

abbrev bodyProg : Prog (TpuEff nD τ sig (Elt F) Λ₀ .tc) PUnit :=
  cc0_body hxM (Memref.isWhole_whole _) hqM (Memref.isWhole_whole _) hkM (Memref.isWhole_whole _) hvM (Memref.isWhole_whole _) hoM (Memref.isWhole_whole _) oM (Memref.isWhole_whole _) xM (Memref.isWhole_whole _) wqM (Memref.isWhole_whole _) kM (Memref.isWhole_whole _) vM (Memref.isWhole_whole _) woM (Memref.isWhole_whole _) khM (Memref.isWhole_whole _) vhM (Memref.isWhole_whole _) cc0_scratch7 cc0_scratch8 cc0_scratch9

set_option maxHeartbeats 4000000 in
theorem body_run (D : Data F) (K : GSem nD τ sig → ℕ) (c : Dev nD) (o : oM.view.ty.Contents (Elt F)) (Kt : PUnit → sProp 𝕄) :
    iprop(opened D K c ∗ creds c ∗ levAts L lv ∗ arrs D c ∗ scr c ∗ mpt c oM fullShare o ∗ ow c (O₀ c) ∗ (left D c o -∗ Kt ⟨⟩)) ⊢ WP c bodyProg Kt := by
  unfold bodyProg
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold opened creds arrs scr toks all13
  iintro ⟨⟨#HI, Hab, ⟨Ha0, Ha1, Ha2, Ha3, Ha4, Ha5, Ha6, Ha7, Ha8, Ha9, Ha10, Ha11, Ha12⟩, ⟨#Hr0, #Hr1, #Hr2, #Hr3, #Hr4, #Hr5, #Hr6, #Hr7, #Hr8, #Hr9, #Hr10, #Hr11, #Hr12⟩, #Hrp, #Hrn, ⟨Ht0, Ht1, Ht2, Ht3, Ht4, Ht5, Ht6, Ht7, Ht8, Ht9, Ht10, Ht11, Ht12, Htp, Htn⟩⟩, ⟨Hcb, Hc9, Hc10, Hc11, Hc12⟩, #Hlev, ⟨Hhx, Hhq, Hhk, Hhv, Hho⟩, ⟨Hx, Hwq, Hk, Hv, Hwo, ⟨%kh0, Hkh⟩, ⟨%vh0, Hvh⟩⟩, Ho, HO, HK⟩
  ihave Ht5 := (weaken (HasR c) _) $$ Ht5
  ihave Ht6 := (weaken (HasL c) _) $$ Ht6
  ihave Ht7 := (weaken (HasR c) _) $$ Ht7
  ihave Ht8 := (weaken (HasL c) _) $$ Ht8
  ihave Ht9 := (weaken (HasR c) _) $$ Ht9
  ihave Ht10 := (weaken (HasL c) _) $$ Ht10
  ihave Ht11 := (weaken (HasR c) _) $$ Ht11
  ihave Ht12 := (weaken (HasL c) _) $$ Ht12
  ihave Htp := (weaken (HasL c) _) $$ Htp
  ihave Htn := (weaken (HasR c) _) $$ Htn
  icases (halves c khM fullShare kh0).mp $$ Hkh with ⟨HkhA, HkhB⟩
  icases (halves c vhM fullShare vh0).mp $$ Hvh with ⟨HvhA, HvhB⟩
  rw [bind_part]
  iapply (part1 D K c)
  isplitr; · iexact HI
  isplitl [Hhk]; · iexact Hhk
  isplitl [Hhv]; · iexact Hhv
  isplitl [Hhx]; · iexact Hhx
  isplitl [Hhq]; · iexact Hhq
  isplitl [Hho]; · iexact Hho
  isplitl [Hk]; · iexact Hk
  isplitl [Hv]; · iexact Hv
  isplitl [Hx]; · iexact Hx
  isplitl [Hwq]; · iexact Hwq
  isplitl [Hwo]; · iexact Hwo
  isplitl [Ht0]; · iexact Ht0
  isplitl [Ht1]; · iexact Ht1
  isplitl [Ht2]; · iexact Ht2
  isplitl [Ht3]; · iexact Ht3
  isplitl [Ht4]; · iexact Ht4
  isplitr; · iexact Hr0
  isplitr; · iexact Hr1
  isplitr; · iexact Hr2
  isplitr; · iexact Hr3
  isplitr; · iexact Hr4
  isplitl [HO]; · iexact HO
  isplitl [Htp]; · iexact Htp
  isplitr; · iexact Hrp
  isplitl [Htn]; · iexact Htn
  isplitr; · iexact Hrn
  isplitl [HkhA]; · unfold slot; iexists kh0; iexact HkhA
  isplitl [HkhB]; · unfold slot; iexists kh0; iexact HkhB
  isplitl [HvhA]; · unfold slot; iexists vh0; iexact HvhA
  isplitl [HvhB]; · unfold slot; iexists vh0; iexact HvhB
  isplitr; · iexact Hr9
  isplitr; · iexact Hr10
  isplitr; · iexact Hr11
  isplitr; · iexact Hr12
  iintro Hc0 Hc1 Hc2 Hc3 Hc4 HO HsA HsB HzA HzB
  unfold r1
  dsimp only
  rw [bind_part]
  iapply (part2 D K c)
  isplitr; · iexact HI
  isplitr; · iexact Hlev
  isplitl [Hcb]; · iexact Hcb
  isplitl [HO]; · iexact HO
  isplitl [Hab]; · iexact Hab
  isplitl [Hc0]; · iexact Hc0
  isplitl [Hc1]; · iexact Hc1
  isplitl [Hc2]; · iexact Hc2
  isplitl [Hc3]; · iexact Hc3
  isplitl [Ha0]; · iexact Ha0
  isplitl [Ha1]; · iexact Ha1
  isplitl [Ha2]; · iexact Ha2
  isplitl [Ha3]; · iexact Ha3
  isplitl [Ht5]; · iexact Ht5
  isplitl [Ht6]; · iexact Ht6
  isplitl [Ht7]; · iexact Ht7
  isplitl [Ht8]; · iexact Ht8
  isplitr; · iexact Hr5
  isplitr; · iexact Hr6
  isplitr; · iexact Hr7
  isplitr; · iexact Hr8
  isplitl [Ht9]; · iexact Ht9
  isplitl [Ht10]; · iexact Ht10
  isplitl [Ht11]; · iexact Ht11
  isplitl [Ht12]; · iexact Ht12
  iintro HO Hob Ho0 Ho1 Ho2 Ho3 Hk Hv Hx Hwq Hhk Hhv Hhx Hhq Hc5 Hc6 Hc7 Hc8 HnkB HnkA HnvB HnvA
  rw [bind_part]
  iapply (part3 c (D c main_arg0) (D c main_v9) (D c main_v2) (D c main_v4))
  isplitl [Hx]; · iexact Hx
  isplitl [Hwq]; · iexact Hwq
  isplitl [Hk]; · iexact Hk
  isplitl [Hv]; · iexact Hv
  iintro Hx Hwq Hk Hv
  rcases h3 : r3 (D c main_arg0) (D c main_v9) (D c main_v2) (D c main_v4) k0_pay4 with ⟨v60, v63, v67, v77, v79, v83, v87, v88⟩
  dsimp only
  rw [bind_part]
  iapply (part4 c (D c main_v4) (D c main_v9) (D c main_v2))
  isplitl [Hv]; · iexact Hv
  isplitl [Hwq]; · iexact Hwq
  isplitl [Hk]; · iexact Hk
  iintro Hv Hwq Hk
  rcases h4 : r4 (D c main_v4) (D c main_v9) (D c main_v2) v60 v63 v87 v88 with ⟨v93, v95, v99, v109, v111, v115, v117, cst_88⟩
  dsimp only
  rw [bind_part]
  iapply (part5 c (D c main_v4) (D c main_arg0) (D c main_v9) (D c main_v2))
  isplitl [Hv]; · iexact Hv
  isplitl [Hx]; · iexact Hx
  isplitl [Hwq]; · iexact Hwq
  isplitl [Hk]; · iexact Hk
  iintro Hv Hx Hwq Hk
  rcases h5 : r5 (D c main_v4) (D c main_arg0) (D c main_v9) (D c main_v2) v60 v115 v117 cst_88 with ⟨v125, v127, v130, v134, v144, v146, v148⟩
  dsimp only
  rw [bind_part]
  iapply (part6 c (D c main_v2) (D c main_v4) (D c main_v9))
  isplitl [Hk]; · iexact Hk
  isplitl [Hv]; · iexact Hv
  isplitl [Hwq]; · iexact Hwq
  iintro Hk Hv Hwq
  rcases h6 : r6 (D c main_v2) (D c main_v4) (D c main_v9) v60 v130 v148 with ⟨v150, v160, v162, v166, v176, v178⟩
  dsimp only
  rw [bind_part]
  iapply (part7 D K c (D c main_v9) (D c main_v2) (D c main_v4))
  isplitr; · iexact HI
  isplitr; · iexact Hlev
  isplitl [Hwq]; · iexact Hwq
  isplitl [Hk]; · iexact Hk
  isplitl [Hv]; · iexact Hv
  isplitl [HO]; · iexact HO
  isplitl [Hc9]; · iexact Hc9
  isplitl [Hc10]; · iexact Hc10
  isplitl [Ha9]; · iexact Ha9
  isplitl [Ha10]; · iexact Ha10
  iintro Hwq Hk Hv HO Ho9 Ho10 Hp9 Hp10
  rcases h7 : r7 (D c main_v9) (D c main_v2) (D c main_v4) (wd c) (Scalar.maxsi (Scalar.subi (wd c) 1#32) 0#32) (Scalar.minsi (Scalar.addi (wd c) 1#32) 7#32) v60 v130 with ⟨v182, v192, v194, v201, v202, v209, v210⟩
  dsimp only
  ihave HA := (recv_or (HasL c) c (hA khM) ((hB kM).view.read (Elt F) (D (prv c) main_v2))) $$ [Hp9 HsA]
  · isplitl [Hp9]; · iexact Hp9
    iexact HsA
  icases HA with ⟨%fA, %hA0, HA⟩
  ihave HB := (recv_or (HasR c) c (hB khM) ((hA kM).view.read (Elt F) (D (nxt c) main_v2))) $$ [Hp10 HsB]
  · isplitl [Hp10]; · iexact Hp10
    iexact HsB
  icases HB with ⟨%fB, %hB0, HB⟩
  ihave HAB := (join_halves c khM fullShare fA fB) $$ [HA HB]
  · isplitl [HA] <;> iassumption
  icases HAB with ⟨%kh, %hkh, Hkh⟩
  rw [bind_part]
  iapply (part8 c kh)
  isplitl [Hkh]; · iexact Hkh
  iintro Hkh
  rcases h8 : r8 kh (wd c) v67 v83 v99 v115 v201 v202 v209 v210 with ⟨v217, v223, v229, v235, v241⟩
  dsimp only
  rw [bind_part]
  iapply (part9 D K c kh)
  isplitr; · iexact HI
  isplitr; · iexact Hlev
  isplitl [Hkh]; · iexact Hkh
  isplitl [HO]; · iexact HO
  isplitl [Hc11]; · iexact Hc11
  isplitl [Hc12]; · iexact Hc12
  isplitl [Ha11]; · iexact Ha11
  isplitl [Ha12]; · iexact Ha12
  iintro Hkh HO Ho11 Ho12 Hp11 Hp12
  rcases h9 : r9 kh (wd c) (Scalar.maxsi (Scalar.subi (wd c) 1#32) 0#32) (Scalar.minsi (Scalar.addi (wd c) 1#32) 7#32) v134 v150 v166 v182 v217 with ⟨v247, v253, v259, v265⟩
  dsimp only
  ihave HA := (recv_or_got (HasL c) c (hA vhM) ((hB vM).view.read (Elt F) (D (prv c) main_v4)) k0_pay2) $$ [Hp11 HzA]
  · isplitl [Hp11]; · iexact Hp11
    iexact HzA
  icases HA with ⟨%gA, %gA0, HA⟩
  ihave HB := (recv_or_got (HasR c) c (hB vhM) ((hA vM).view.read (Elt F) (D (nxt c) main_v4)) k0_pay3) $$ [Hp12 HzB]
  · isplitl [Hp12]; · iexact Hp12
    iexact HzB
  icases HB with ⟨%gB, %gB0, HB⟩
  ihave HAB := (join_halves c vhM fullShare gA gB) $$ [HA HB]
  · isplitl [HA] <;> iassumption
  icases HAB with ⟨%vh, %hvh, Hvh⟩
  rw [bind_part]
  iapply (part10 D K c vh)
  isplitr; · iexact HI
  isplitr; · iexact Hlev
  isplitl [Hvh]; · iexact Hvh
  isplitl [HO]; · iexact HO
  isplitl [Hc5]; · iexact Hc5
  isplitl [Hc7]; · iexact Hc7
  isplitl [Hc6]; · iexact Hc6
  isplitl [Hc8]; · iexact Hc8
  isplitl [Hc4]; · iexact Hc4
  isplitl [Ha5]; · iexact Ha5
  isplitl [Ha7]; · iexact Ha7
  isplitl [Ha6]; · iexact Ha6
  isplitl [Ha8]; · iexact Ha8
  isplitl [Ha4]; · iexact Ha4
  iintro Hvh Hwo HO Ho5 Ho7 Ho6 Ho8 Ho4 Hp5 Hp7 Hp6 Hp8 Hho
  rcases h10 : r10 vh (D c main_v10) (wd c) v77 v79 v93 v223 v229 with ⟨v294, v299⟩
  dsimp only
  rw [bind_part]
  iapply (part11 c (D c main_v10) vh)
  isplitl [Hwo]; · iexact Hwo
  isplitl [Hvh]; · iexact Hvh
  iintro Hwo Hvh
  generalize h11 : r11 (D c main_v10) vh v95 v109 v111 v125 v127 v229 v235 v241 v294 v299 = v336
  rw [bind_part]
  iapply (part12 D K c o vh (D c main_v10))
  isplitr; · iexact HI
  isplitr; · iexact Hlev
  isplitl [Ho]; · iexact Ho
  isplitl [Hvh]; · iexact Hvh
  isplitl [Hwo]; · iexact Hwo
  isplitr; · iempintro
  iintro Ho Hvh Hwo -
  rcases h12 : r12 o vh (D c main_v10) v144 v146 v160 v162 v247 v253 v259 v336 with ⟨v368, v369, v371⟩
  dsimp only
  simp only [Prog.lift, Prog.bind_op, Prog.bind_ret, Prog.pure_eq_ret]
  iapply (step_load c (M := woM) (q := fullShare) (f := (D c main_v10)))
  isplitl [Hwo]; · iexact Hwo
  iintro Hwo
  iapply (step_load c (M := vhM) (q := fullShare) (f := vh))
  isplitl [Hvh]; · iexact Hvh
  iintro Hvh
  iapply (step_load c (M := woM) (q := fullShare) (f := (D c main_v10)))
  isplitl [Hwo]; · iexact Hwo
  iintro Hwo
  iapply (step_load c (M := oM) (q := fullShare) (f := _))
  isplitl [Ho]; · iexact Ho
  iintro Ho
  iapply (step_store c (M := oM) (r := oR1))
  isplitl [Ho]; · iexact Ho
  iintro Ho
  have hout : outs c (D c main_arg0) (D c main_v9) (D c main_v2) (D c main_v4) (D c main_v10) kh vh o = (k0_pay58 v336, k0_pay1 v176 v178 v192 v194 v259 v265 v368 v369 v371 (woM.view.readAt (Elt F) (Rect.unit (s := S256x512) ![128, 0] S64x512.size inb_S256x512_S64x512_128_0).toLoadRect (D c main_v10)) (vhM.view.readAt (Elt F) (Rect.unit (s := S2x4x256x64) ![1, 3, 0, 0] S1x1x256x64.size inb_S2x4x256x64_S1x1x256x64_1_3_0_0).toLoadRect vh) (woM.view.readAt (Elt F) (Rect.unit (s := S256x512) ![192, 0] S64x512.size inb_S256x512_S64x512_192_0).toLoadRect (D c main_v10))) := by
    simp only [outs, h3, h4, h5, h6, h7, h8, h9, h10, h11, h12]
  ihave Hk := (rejoin c kM (D c main_v2) (HasL c) (HasR c)) $$ [Hk Hp6 HnkA Hp5 HnkB]
  · isplitl [Hk]; · iexact Hk
    isplitl [Hp6 HnkA]
    · isplitl [Hp6]; · iexact Hp6
      iexact HnkA
    isplitl [Hp5]; · iexact Hp5
    iexact HnkB
  ihave Hv := (rejoin c vM (D c main_v4) (HasL c) (HasR c)) $$ [Hv Hp8 HnvA Hp7 HnvB]
  · isplitl [Hv]; · iexact Hv
    isplitl [Hp8 HnvA]
    · isplitl [Hp8]; · iexact Hp8
      iexact HnvA
    isplitl [Hp7]; · iexact Hp7
    iexact HnvB
  unfold WP
  rw [wp_ret]
  imod (over_close D K (barCell c)) $$ [Hob] with Hsb
  · isplitr; · iapply (invs_bar D K c); iexact HI
    iexact Hob
  imod (over_close D K (dCell c 0)) $$ [Ho0] with Hs0
  · isplitr; · iapply (invs_dma D K c 0); iexact HI
    iexact Ho0
  imod (over_close D K (dCell c 1)) $$ [Ho1] with Hs1
  · isplitr; · iapply (invs_dma D K c 1); iexact HI
    iexact Ho1
  imod (over_close D K (dCell c 2)) $$ [Ho2] with Hs2
  · isplitr; · iapply (invs_dma D K c 2); iexact HI
    iexact Ho2
  imod (over_close D K (dCell c 3)) $$ [Ho3] with Hs3
  · isplitr; · iapply (invs_dma D K c 3); iexact HI
    iexact Ho3
  imod (over_close D K (dCell c 4)) $$ [Ho4] with Hs4
  · isplitr; · iapply (invs_dma D K c 4); iexact HI
    iexact Ho4
  imod (over_close D K (dCell c 5)) $$ [Ho5] with Hs5
  · isplitr; · iapply (invs_dma D K c 5); iexact HI
    iexact Ho5
  imod (over_close D K (dCell c 6)) $$ [Ho6] with Hs6
  · isplitr; · iapply (invs_dma D K c 6); iexact HI
    iexact Ho6
  imod (over_close D K (dCell c 7)) $$ [Ho7] with Hs7
  · isplitr; · iapply (invs_dma D K c 7); iexact HI
    iexact Ho7
  imod (over_close D K (dCell c 8)) $$ [Ho8] with Hs8
  · isplitr; · iapply (invs_dma D K c 8); iexact HI
    iexact Ho8
  imod (over_close D K (dCell c 9)) $$ [Ho9] with Hs9
  · isplitr; · iapply (invs_dma D K c 9); iexact HI
    iexact Ho9
  imod (over_close D K (dCell c 10)) $$ [Ho10] with Hs10
  · isplitr; · iapply (invs_dma D K c 10); iexact HI
    iexact Ho10
  imod (over_close D K (dCell c 11)) $$ [Ho11] with Hs11
  · isplitr; · iapply (invs_dma D K c 11); iexact HI
    iexact Ho11
  imod (over_close D K (dCell c 12)) $$ [Ho12] with Hs12
  · isplitr; · iapply (invs_dma D K c 12); iexact HI
    iexact Ho12
  imodintro
  iapply HK
  unfold left all13 arrs scr
  isplitl [Hsb]; · iexact Hsb
  isplitl [Hs0 Hs1 Hs2 Hs3 Hs4 Hs5 Hs6 Hs7 Hs8 Hs9 Hs10 Hs11 Hs12]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hs12
  isplitl [Hhx Hhq Hhk Hhv Hho]
  · isplitl [Hhx]; · iexact Hhx
    isplitl [Hhq]; · iexact Hhq
    isplitl [Hhk]; · iexact Hhk
    isplitl [Hhv] <;> iassumption
  isplitl [Hx Hwq Hk Hv Hwo Hkh Hvh]
  · isplitl [Hx]; · iexists _; iexact Hx
    isplitl [Hwq]; · iexists _; iexact Hwq
    isplitl [Hk]; · iexists _; iexact Hk
    isplitl [Hv]; · iexists _; iexact Hv
    isplitl [Hwo]; · iexists _; iexact Hwo
    isplitl [Hkh]; · iexists _; iexact Hkh
    iexists _; iexact Hvh
  isplitl [HO]; · iexact HO
  iexists kh; iexists vh
  isplitr
  · ipureintro
    exact ⟨fun h => hkh.1.trans (hA0 h), fun h => hkh.2.trans (hB0 h), fun h => hvh.1.trans (gA0.1 h), fun h => hvh.2.trans (gB0.1 h),
      fun h => hvh.1.trans (gA0.2 h), fun h => hvh.2.trans (gB0.2 h)⟩
  unfold outF
  rw [hout]
  iexact Ho

end Cert.KernelIdeal.Win

end
-- ==== Proof.Deal.lean ====
/-
What the launch deals to each device: the right to open its own DMA cells, its position on its barrier cell, the token
of every duty it pays, and the credit of every unit its neighbours owe it.
-/
module

public import proofs.«01_k».proof.Proof.Body
public import Idealize.ShloMosaic.Lib.Pipeline.Regions
public import Idealize.ShloMosaic.Lib.Rounds

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## Cells and tokens -/

def barEmb : Dev nD ↪ GSem nD τ sig := ⟨fun c => barCell c, fun _ _ h => congrArg (fun g : GSem nD τ sig => g.1.1) h⟩
def dmaEmb : Dev nD × Fin 13 ↪ GSem nD τ sig :=
  ⟨fun p => dCell p.1 p.2, fun a b h => Prod.ext (congrArg (fun g : GSem nD τ sig => g.1.1) h)
    (dsem_injective (SemLoc.dma.inj (congrArg Prod.snd h)))⟩
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  have h' : SemLoc.dma (dsem p.2) = (SemLoc.reg barrier0 : SemLoc sig) := congrArg Prod.snd h
  cases h'

/-- Token `j` of a device: those of its thirteen DMA cells, then the two of its barrier cell. -/
def tokSem (j : Fin 15) : SemLoc sig := if h : j.val < 13 then .dma (dsem ⟨j.val, h⟩) else .reg barrier0
def tokFlag (j : Fin 15) : Bool := j.val == 13
theorem tok_injective : Function.Injective (fun j : Fin 15 => (tokSem j, tokFlag j)) := by decide
def allToks : Finset (GSem nD τ sig × ℕ × Bool) :=
  Finset.univ.map ⟨fun p : Dev nD × Fin 15 => (((p.1 : Thread nD τ), tokSem p.2), 0, tokFlag p.2), fun _ _ h =>
    Prod.ext (congrArg (fun t : GSem nD τ sig × ℕ × Bool => t.1.1.1) h)
      (tok_injective (Prod.ext (congrArg (fun t : GSem nD τ sig × ℕ × Bool => t.1.2) h) (congrArg (fun t : GSem nD τ sig × ℕ × Bool => t.2.2) h)))⟩

/-- The tokens of a device's own cells. -/
def ownToks (c : Dev nD) : sProp 𝕄 :=
  iprop(dutyTok ER (dCell c 0) 0 false ∗ dutyTok ER (dCell c 1) 0 false ∗ dutyTok ER (dCell c 2) 0 false ∗ dutyTok ER (dCell c 3) 0 false ∗ dutyTok ER (dCell c 4) 0 false ∗ dutyTok ER (dCell c 5) 0 false ∗ dutyTok ER (dCell c 6) 0 false ∗ dutyTok ER (dCell c 7) 0 false ∗ dutyTok ER (dCell c 8) 0 false
    ∗ dutyTok ER (dCell c 9) 0 false ∗ dutyTok ER (dCell c 10) 0 false ∗ dutyTok ER (dCell c 11) 0 false ∗ dutyTok ER (dCell c 12) 0 false
    ∗ dutyTok ER (barCell c) 0 true ∗ dutyTok ER (barCell c) 0 false)

theorem toks_own : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_eq_bigSepL [(0 : Fin 15), 1, 2, 3, 4, 5, 6, 7, 8, 9, 10, 11, 12, 13, 14] (by decide) (by decide)]
  rfl

/-- Walking once around the devices. -/
def rot : Dev nD ≃ Dev nD := ⟨nxt, prv, prv_nxt, nxt_prv⟩

/-- Every token goes to the device that pays with it. -/
theorem toks_around : (bigSep Finset.univ fun c : Dev nD => (ownToks c : sProp 𝕄)) ⊢ bigSep Finset.univ fun c : Dev nD => (toks c : sProp 𝕄) := by
  unfold ownToks toks
  simp only [bigSep_sep']
  rw [bigSep_univ_equiv rot (fun c : Dev nD => (dutyTok ER (dCell c 9) 0 false : sProp 𝕄)),
    bigSep_univ_equiv rot.symm (fun c : Dev nD => (dutyTok ER (dCell c 10) 0 false : sProp 𝕄)),
    bigSep_univ_equiv rot (fun c : Dev nD => (dutyTok ER (dCell c 11) 0 false : sProp 𝕄)),
    bigSep_univ_equiv rot.symm (fun c : Dev nD => (dutyTok ER (dCell c 12) 0 false : sProp 𝕄)),
    bigSep_univ_equiv rot.symm (fun c : Dev nD => (dutyTok ER (barCell c) 0 true : sProp 𝕄)),
    bigSep_univ_equiv rot (fun c : Dev nD => (dutyTok ER (barCell c) 0 false : sProp 𝕄))]
  exact BI.Entails.refl _

/-! ## What each device carries from the launch -/

/-- Every invariant, and round 0 of every barrier cell reached. -/
def records (K : GSem nD τ sig → ℕ) : sProp 𝕄 :=
  iprop(invs D K ∗ bigSep Finset.univ fun c : Dev nD => reached ER (barCell c) 0)
instance records_persistent (K : GSem nD τ sig → ℕ) : BI.Persistent (records D K) := by unfold records; infer_instance

theorem records_reached (K : GSem nD τ sig → ℕ) (c : Dev nD) : records D K ⊢ reached ER (barCell c) 0 := by
  unfold records
  iintro ⟨-, H⟩
  iapply (pers_mem (Φ := fun c : Dev nD => (reached ER (barCell c) 0 : sProp 𝕄)) (Finset.mem_univ c)); iexact H

/-- What only device `c` holds. -/
def linear (c : Dev nD) : sProp 𝕄 :=
  iprop(atPos ER (barCell c) 0 ∅ 0 ∗ all13 (fun k => openTok ER (dCell c k)) ∗ toks c)

/-- The protocol's state from the launch to the kernel. -/
def ghost (c : Dev nD) : sProp 𝕄 := iprop(∃ K, records D K ∗ linear c)

/-- The cells opened, with their counters. -/
theorem ghost_open (c : Dev nD) :
    iprop(ghost D c ∗ all13 (fun k => semVal (dCell c k) 0)) ⊢ (|={Set.univ}=> ∃ K, opened D K c : sProp 𝕄) := by
  unfold ghost linear all13
  iintro ⟨⟨%K, #HR, Hab, ⟨Ho0, Ho1, Ho2, Ho3, Ho4, Ho5, Ho6, Ho7, Ho8, Ho9, Ho10, Ho11, Ho12⟩, Ht⟩, ⟨Hs0, Hs1, Hs2, Hs3, Hs4, Hs5, Hs6, Hs7, Hs8, Hs9, Hs10, Hs11, Hs12⟩⟩
  ihave #Hrp := (records_reached D K (prv c)) $$ HR
  ihave #Hrn := (records_reached D K (nxt c)) $$ HR
  ihave #HI := (show records D K ⊢ invs D K from by unfold records; iintro ⟨H, -⟩; iexact H) $$ HR
  imod (Rounds.cell_open ER (sched D) (g := dCell c 0) (Set.mem_univ (K (dCell c 0)))) $$ [Ho0 Hs0] with ⟨Ha0, #Hr0⟩
  · isplitr; · iapply (invs_dma D K c 0); iexact HI
    isplitl [Ho0]; · iexact Ho0
    iexact Hs0
  imod (Rounds.cell_open ER (sched D) (g := dCell c 1) (Set.mem_univ (K (dCell c 1)))) $$ [Ho1 Hs1] with ⟨Ha1, #Hr1⟩
  · isplitr; · iapply (invs_dma D K c 1); iexact HI
    isplitl [Ho1]; · iexact Ho1
    iexact Hs1
  imod (Rounds.cell_open ER (sched D) (g := dCell c 2) (Set.mem_univ (K (dCell c 2)))) $$ [Ho2 Hs2] with ⟨Ha2, #Hr2⟩
  · isplitr; · iapply (invs_dma D K c 2); iexact HI
    isplitl [Ho2]; · iexact Ho2
    iexact Hs2
  imod (Rounds.cell_open ER (sched D) (g := dCell c 3) (Set.mem_univ (K (dCell c 3)))) $$ [Ho3 Hs3] with ⟨Ha3, #Hr3⟩
  · isplitr; · iapply (invs_dma D K c 3); iexact HI
    isplitl [Ho3]; · iexact Ho3
    iexact Hs3
  imod (Rounds.cell_open ER (sched D) (g := dCell c 4) (Set.mem_univ (K (dCell c 4)))) $$ [Ho4 Hs4] with ⟨Ha4, #Hr4⟩
  · isplitr; · iapply (invs_dma D K c 4); iexact HI
    isplitl [Ho4]; · iexact Ho4
    iexact Hs4
  imod (Rounds.cell_open ER (sched D) (g := dCell c 5) (Set.mem_univ (K (dCell c 5)))) $$ [Ho5 Hs5] with ⟨Ha5, #Hr5⟩
  · isplitr; · iapply (invs_dma D K c 5); iexact HI
    isplitl [Ho5]; · iexact Ho5
    iexact Hs5
  imod (Rounds.cell_open ER (sched D) (g := dCell c 6) (Set.mem_univ (K (dCell c 6)))) $$ [Ho6 Hs6] with ⟨Ha6, #Hr6⟩
  · isplitr; · iapply (invs_dma D K c 6); iexact HI
    isplitl [Ho6]; · iexact Ho6
    iexact Hs6
  imod (Rounds.cell_open ER (sched D) (g := dCell c 7) (Set.mem_univ (K (dCell c 7)))) $$ [Ho7 Hs7] with ⟨Ha7, #Hr7⟩
  · isplitr; · iapply (invs_dma D K c 7); iexact HI
    isplitl [Ho7]; · iexact Ho7
    iexact Hs7
  imod (Rounds.cell_open ER (sched D) (g := dCell c 8) (Set.mem_univ (K (dCell c 8)))) $$ [Ho8 Hs8] with ⟨Ha8, #Hr8⟩
  · isplitr; · iapply (invs_dma D K c 8); iexact HI
    isplitl [Ho8]; · iexact Ho8
    iexact Hs8
  imod (Rounds.cell_open ER (sched D) (g := dCell c 9) (Set.mem_univ (K (dCell c 9)))) $$ [Ho9 Hs9] with ⟨Ha9, #Hr9⟩
  · isplitr; · iapply (invs_dma D K c 9); iexact HI
    isplitl [Ho9]; · iexact Ho9
    iexact Hs9
  imod (Rounds.cell_open ER (sched D) (g := dCell c 10) (Set.mem_univ (K (dCell c 10)))) $$ [Ho10 Hs10] with ⟨Ha10, #Hr10⟩
  · isplitr; · iapply (invs_dma D K c 10); iexact HI
    isplitl [Ho10]; · iexact Ho10
    iexact Hs10
  imod (Rounds.cell_open ER (sched D) (g := dCell c 11) (Set.mem_univ (K (dCell c 11)))) $$ [Ho11 Hs11] with ⟨Ha11, #Hr11⟩
  · isplitr; · iapply (invs_dma D K c 11); iexact HI
    isplitl [Ho11]; · iexact Ho11
    iexact Hs11
  imod (Rounds.cell_open ER (sched D) (g := dCell c 12) (Set.mem_univ (K (dCell c 12)))) $$ [Ho12 Hs12] with ⟨Ha12, #Hr12⟩
  · isplitr; · iapply (invs_dma D K c 12); iexact HI
    isplitl [Ho12]; · iexact Ho12
    iexact Hs12
  imodintro
  iexists K
  unfold opened all13
  isplitr; · iexact HI
  isplitl [Hab]; · iexact Hab
  isplitl [Ha0 Ha1 Ha2 Ha3 Ha4 Ha5 Ha6 Ha7 Ha8 Ha9 Ha10 Ha11 Ha12]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Ha12
  isplitr [Ht]
  · isplitr; · iexact Hr0
    isplitr; · iexact Hr1
    isplitr; · iexact Hr2
    isplitr; · iexact Hr3
    isplitr; · iexact Hr4
    isplitr; · iexact Hr5
    isplitr; · iexact Hr6
    isplitr; · iexact Hr7
    isplitr; · iexact Hr8
    isplitr; · iexact Hr9
    isplitr; · iexact Hr10
    isplitr; · iexact Hr11
    iexact Hr12
  isplitr; · iexact Hrp
  isplitr; · iexact Hrn
  iexact Ht

/-! ## Credit -/

theorem tG_apply (p : Prop) [Decidable p] (g g' : GSem nD τ sig) (n : ℕ) : tG p g n g' () = if p ∧ g' = g then n else 0 := by
  unfold tG
  by_cases h : p
  · rw [if_pos h, tallyAt_apply]; simp [h]
  · rw [if_neg h]; simp [h]

theorem dCell_eq (a b : Dev nD) (i j : Fin 13) : dCell a i = dCell b j ↔ a = b ∧ i = j :=
  ⟨fun h => Prod.ext_iff.mp (dmaEmb.injective (a₁ := (a, i)) (a₂ := (b, j)) h), fun h => by rw [h.1, h.2]⟩
theorem barCell_eq (a b : Dev nD) : barCell a = barCell b ↔ a = b := ⟨fun h => barEmb.injective h, fun h => by rw [h]⟩
theorem dCell_ne_bar (a b : Dev nD) (i : Fin 13) : dCell a i ≠ barCell b := fun h => by
  have h' : SemLoc.dma (dsem i) = (SemLoc.reg barrier0 : SemLoc sig) := congrArg Prod.snd h
  cases h'

theorem sum_nxt (c : Dev nD) (n : ℕ) : (∑ d : Dev nD, if HasR d ∧ c = nxt d then n else 0) = if HasL c then n else 0 := by
  rw [Finset.sum_congr rfl (g := fun d => if d = prv c then (if HasL c then n else 0) else 0)]
  · rw [Finset.sum_ite_eq' Finset.univ (prv c), if_pos (Finset.mem_univ _)]
  · intro d _
    have h : (HasR d ∧ c = nxt d) ↔ (d = prv c ∧ HasL c) := by revert c d; decide
    rw [if_congr h rfl rfl, ite_and]
theorem sum_prv (c : Dev nD) (n : ℕ) : (∑ d : Dev nD, if HasL d ∧ c = prv d then n else 0) = if HasR c then n else 0 := by
  rw [Finset.sum_congr rfl (g := fun d => if d = nxt c then (if HasR c then n else 0) else 0)]
  · rw [Finset.sum_ite_eq' Finset.univ (nxt c), if_pos (Finset.mem_univ _)]
  · intro d _
    have h : (HasL d ∧ c = prv d) ↔ (d = nxt c ∧ HasR c) := by revert c d; decide
    rw [if_congr h rfl rfl, ite_and]

theorem O₀_apply (d : Dev nD) (g : GSem nD τ sig) : O₀ d g () =
    (if HasL d ∧ g = dCell (prv d) 12 then N else 0) + (if HasR d ∧ g = dCell (nxt d) 11 then N else 0)
    + (if HasL d ∧ g = dCell (prv d) 10 then N else 0) + (if HasR d ∧ g = dCell (nxt d) 9 then N else 0)
    + (if HasR d ∧ g = barCell (nxt d) then 1 else 0) + (if HasL d ∧ g = barCell (prv d) then 1 else 0) := by
  unfold O₀ oBr oRk oLk oRv oLv
  simp only [Pi.add_apply, Finsupp.add_apply, tG_apply]

theorem sum_bar (c : Dev nD) : (∑ d : Dev nD, O₀ d (barCell c) ()) = (if HasL c then 1 else 0) + (if HasR c then 1 else 0) := by
  simp only [O₀_apply, (dCell_ne_bar _ _ _).symm, and_false, if_false, Nat.zero_add, barCell_eq, Finset.sum_add_distrib, sum_nxt, sum_prv]
theorem sum_9 (c : Dev nD) : (∑ d : Dev nD, O₀ d (dCell c 9) ()) = if HasL c then N else 0 := by
  simp only [O₀_apply, dCell_ne_bar, dCell_eq, and_false, if_false, Nat.zero_add, Nat.add_zero, Finset.sum_add_distrib, sum_nxt, sum_prv,
    show ¬ ((9 : Fin 13) = 12) by decide, show ¬ ((9 : Fin 13) = 11) by decide, show ¬ ((9 : Fin 13) = 10) by decide, and_true, Finset.sum_const_zero]
theorem sum_10 (c : Dev nD) : (∑ d : Dev nD, O₀ d (dCell c 10) ()) = if HasR c then N else 0 := by
  simp only [O₀_apply, dCell_ne_bar, dCell_eq, and_false, if_false, Nat.zero_add, Nat.add_zero, Finset.sum_add_distrib, sum_nxt, sum_prv,
    show ¬ ((10 : Fin 13) = 12) by decide, show ¬ ((10 : Fin 13) = 11) by decide, show ¬ ((10 : Fin 13) = 9) by decide, and_true, Finset.sum_const_zero]
theorem sum_11 (c : Dev nD) : (∑ d : Dev nD, O₀ d (dCell c 11) ()) = if HasL c then N else 0 := by
  simp only [O₀_apply, dCell_ne_bar, dCell_eq, and_false, if_false, Nat.zero_add, Nat.add_zero, Finset.sum_add_distrib, sum_nxt, sum_prv,
    show ¬ ((11 : Fin 13) = 12) by decide, show ¬ ((11 : Fin 13) = 10) by decide, show ¬ ((11 : Fin 13) = 9) by decide, and_true, Finset.sum_const_zero]
theorem sum_12 (c : Dev nD) : (∑ d : Dev nD, O₀ d (dCell c 12) ()) = if HasR c then N else 0 := by
  simp only [O₀_apply, dCell_ne_bar, dCell_eq, and_false, if_false, Nat.zero_add, Nat.add_zero, Finset.sum_add_distrib, sum_nxt, sum_prv,
    show ¬ ((12 : Fin 13) = 11) by decide, show ¬ ((12 : Fin 13) = 10) by decide, show ¬ ((12 : Fin 13) = 9) by decide, and_true, Finset.sum_const_zero]

theorem launch_cell (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- Credit for a guarded amount, kept if the guard holds. -/
theorem cred_guard (p : Prop) [Decidable p] (g : GSem nD τ sig) (n : ℕ) :
    (cred (tallyAt g () (if p then n else 0)) : sProp 𝕄) ⊢ Gd p (cred (tallyAt g () n)) := by
  by_cases h : p
  · rw [if_pos h, Gd_pos h]
  · rw [Gd_neg h]; iintro -; iempintro

theorem launch_creds (c : Dev nD) : (Pipeline.launchCred O₀ c : sProp 𝕄) ⊢ creds c := by
  unfold Pipeline.launchCred creds
  refine (BI.bigSep_subset (t := {SemLoc.reg barrier0, .dma (dsem 9), .dma (dsem 10), .dma (dsem 11), .dma (dsem 12)}) (Finset.subset_univ _)).trans ?_
  rw [BI.bigSep_eq_bigSepL_of_eq [SemLoc.reg barrier0, .dma (dsem 9), .dma (dsem 10), .dma (dsem 11), .dma (dsem 12)] (by decide) (by decide)]
  show iprop(cred (tallyOn (barCell c) _) ∗ cred (tallyOn (dCell c 9) _) ∗ cred (tallyOn (dCell c 10) _) ∗ cred (tallyOn (dCell c 11) _) ∗ cred (tallyOn (dCell c 12) _)) ⊢ _
  rw [launch_cell _ _ (sum_bar c), launch_cell _ _ (sum_9 c), launch_cell _ _ (sum_10 c), launch_cell _ _ (sum_11 c), launch_cell _ _ (sum_12 c)]
  iintro ⟨Hb, H9, H10, H11, H12⟩
  isplitl [Hb]; · iexact Hb
  isplitl [H9]; · iapply (cred_guard (HasL c) (dCell c 9) N); iexact H9
  isplitl [H10]; · iapply (cred_guard (HasR c) (dCell c 10) N); iexact H10
  isplitl [H11]; · iapply (cred_guard (HasL c) (dCell c 11) N); iexact H11
  iapply (cred_guard (HasR c) (dCell c 12) N); iexact H12

end Cert.KernelIdeal.Win

end
-- ==== Proof.Launch.lean ====
/-
The launch: the host operations, then the kernel's one region on every device, from what the launch deals to the final
memory. What a device's output array ends at is `outF` of its own arrays and of some halo buffers satisfying `Halo`.
-/
module

public import proofs.«01_k».proof.Proof.Deal
public import proofs.«01_k».proof.Proof.Gen.KernelIdeal.Frame
public import proofs.«01_k».proof.Proof.Gen.KernelIdeal.Points
public import Idealize.ShloMosaic.Lib.Pipeline.ArrRel

@[expose] public section

noncomputable section

namespace Cert.KernelIdeal.Win

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers no kernel scopes -/

/-- What the kernel finds in the arrays. -/
abbrev Dm : Data F := fun c b => V m c b

def bufs : Finset (DevRef τ sig) := (StableHlo.tcRefs τ sig).filter fun b => ¬ b.isScoped

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A buffer of device `c`, whole. -/
abbrev pt (c : Dev nD) (b : Ref sig .tc) (f : Buf (Elt F) ((c : Thread nD τ).loc b)) : sProp 𝕄 := ((c : Thread nD τ).loc b) ↦{fullShare} f

theorem mpt_whole (c : Dev nD) (b : Ref sig .tc) (q : PosShare TreeShare) (f : Buf (Elt F) ((c : Thread nD τ).loc b)) :
    (mpt c (Memref.whole b) q f : sProp 𝕄) = (((c : Thread nD τ).loc b) ↦{q} f) := by
  unfold mpt
  rw [show (Memref.whole b : Memref sig .tc b.space b.ty.shape b.ty.elt).view.set = Finset.univ from View.set_whole _]

/-- The buffers the kernel does not touch. -/
def idle (c : Dev nD) (W : (b : Ref sig .tc) → Buf (Elt F) ((c : Thread nD τ).loc b)) : sProp 𝕄 :=
  iprop(pt c main_arg1 (W main_arg1) ∗ pt c main_arg2 (W main_arg2) ∗ pt c main_arg3 (W main_arg3) ∗ pt c main_arg4 (W main_arg4)
    ∗ pt c main_v1 (W main_v1) ∗ pt c main_v3 (W main_v3) ∗ pt c main_v5 (W main_v5) ∗ pt c main_v6 (W main_v6) ∗ pt c main_cst (W main_cst)
    ∗ pt c main_v7 (W main_v7) ∗ pt c main_v8 (W main_v8))

theorem bufs_eq (c : Dev nD) (W : Valuation τ sig (Elt F)) : (StableHlo.held (c : Thread nD τ) bufs W : sProp 𝕄)
    = iprop(pt c main_arg0 (W main_arg0) ∗ pt c main_v9 (W main_v9) ∗ pt c main_v2 (W main_v2) ∗ pt c main_v4 (W main_v4) ∗ pt c main_v10 (W main_v10)
      ∗ pt c main_v11 (W main_v11) ∗ idle c (fun b => W b)) := by
  unfold StableHlo.held
  rw [bigSep_eq_bigSepL_of_eq [Proc.devRef .tc main_arg0, Proc.devRef .tc main_v9, Proc.devRef .tc main_v2, Proc.devRef .tc main_v4, Proc.devRef .tc main_v10,
    Proc.devRef .tc main_v11, Proc.devRef .tc main_arg1, Proc.devRef .tc main_arg2, Proc.devRef .tc main_arg3, Proc.devRef .tc main_arg4,
    Proc.devRef .tc main_v1, Proc.devRef .tc main_v3, Proc.devRef .tc main_v5, Proc.devRef .tc main_v6, Proc.devRef .tc main_cst,
    Proc.devRef .tc main_v7, Proc.devRef .tc main_v8] (by decide) (by decide)]
  rfl

theorem arrs_eq (D : Data F) (c : Dev nD) : (arrs D c : sProp 𝕄)
    = iprop(pt c main_arg0 (D c main_arg0) ∗ pt c main_v9 (D c main_v9) ∗ pt c main_v2 (D c main_v2) ∗ pt c main_v4 (D c main_v4) ∗ pt c main_v10 (D c main_v10)) := by
  unfold arrs
  rw [show (mpt c hxM fullShare (D c main_arg0) : sProp 𝕄) = pt c main_arg0 (D c main_arg0) from mpt_whole ..,
    show (mpt c hqM fullShare (D c main_v9) : sProp 𝕄) = pt c main_v9 (D c main_v9) from mpt_whole ..,
    show (mpt c hkM fullShare (D c main_v2) : sProp 𝕄) = pt c main_v2 (D c main_v2) from mpt_whole ..,
    show (mpt c hvM fullShare (D c main_v4) : sProp 𝕄) = pt c main_v4 (D c main_v4) from mpt_whole ..,
    show (mpt c hoM fullShare (D c main_v10) : sProp 𝕄) = pt c main_v10 (D c main_v10) from mpt_whole ..]

theorem held_split (c : Dev nD) : (StableHlo.held (c : Thread nD τ) bufs (StableHlo.after hostOps0 (fun b => m (c, b))) : sProp 𝕄)
    ⊢ iprop(arrs (Dm m) c ∗ pt c main_v11 (Dm m c main_v11) ∗ idle c (Dm m c)) := by
  rw [bufs_eq, arrs_eq]
  iintro ⟨H1, H2, H3, H4, H5, H6, H7⟩
  isplitl [H1 H2 H3 H4 H5]
  · isplitl [H1]; · iexact H1
    isplitl [H2]; · iexact H2
    isplitl [H3]; · iexact H3
    isplitl [H4]; · iexact H4
    iexact H5
  isplitl [H6]; · iexact H6
  iexact H7

theorem some_eq (c : Dev nD) (b : Ref sig .tc) : iprop(∃ f, mpt c (Memref.whole b) fullShare f : sProp 𝕄) = iprop(∃ f, pt c b f) :=
  congrArg BIBase.exists (funext fun f => mpt_whole c b fullShare f)
theorem scr_eq (c : Dev nD) : (scr c : sProp 𝕄) = Pipeline.scopedRest (Ix := Unit) (Name := ℕ) (U := UU) (Lvl := ℕ) (Val := Elt F) spec0 c := by
  rw [scopedRest0_eq]; unfold scr
  exact congrArg₂ BIBase.sep (some_eq c cc0_scratch0) (congrArg₂ BIBase.sep (some_eq c cc0_scratch1) (congrArg₂ BIBase.sep (some_eq c cc0_scratch2) (congrArg₂ BIBase.sep (some_eq c cc0_scratch3) (congrArg₂ BIBase.sep (some_eq c cc0_scratch4) (congrArg₂ BIBase.sep (some_eq c cc0_scratch5) (some_eq c cc0_scratch6))))))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The kernel's own semaphores. -/
abbrev osem : Fin 13 → SemLoc sig := fun k => .dma (dsem k)
theorem osem_facts : Pipeline.OwnSemFacts spec0 osem := by decide
theorem ownSems_eq (c : Dev nD) : (Pipeline.ownSems0 osem c : sProp 𝕄) = all13 (fun k => semVal (dCell c k) 0) := all13_eq _

/-! ## The region -/

def Xin (c : Dev nD) : sProp 𝕄 := iprop((∃ K, opened (Dm m) K c) ∗ creds c ∗ levAts L lv ∗ arrs (Dm m) c)
def Yout (c : Dev nD) : sProp 𝕄 := iprop(semVal (barCell c) 0 ∗ arrs (Dm m) c)

/-- The region's proof data: what the kernel leaves in the output's staging buffer is told by a relation. -/
def dat (c : Dev nD) : Pipeline.RDat τ (Elt F) Unit ℕ UU ℕ cfg0 c where
  A w := V m c (Pipeline.arrRef spec0 w)
  after := fun
    | 0 => fun _ Y X => ∃ kh vh, Halo (Dm m) c kh vh ∧ X = outF (Dm m) c kh vh Y
    | ⟨_ + 1, h⟩ => absurd h (Nat.not_lt.2 (Nat.le_add_left _ _))
  Φ t := if t.val = 0 then iprop(Xin m c ∗ scr c) else iprop(Yout m c ∗ all13 (fun k => semVal (dCell c k) 0) ∗ scr c)
  q _ := fullShare
  owed t := if t.val = 0 then O₀ c else 0

abbrev adm : (p : Fin 1) → (pcfgs (F := F) p).Adm := fun p => (cfgs p).toPCfg_adm
def rdats : (p : Fin 1) → (c : Dev nD) → Pipeline.RDat τ (Elt F) Unit ℕ UU ℕ (Pipeline.pin (pcfgs (F := F)) adm p) c := fun _ c => dat m c

theorem owesAt_intro (c : Dev nD) (t : Fin (cfg0.N + 1)) (O : CellTallies nD τ sig Unit) (h0 : (dat m c).owed t = O) :
    (ow c O : sProp 𝕄) ⊢ ((dat m c).owesAt () t : sProp 𝕄) := by
  unfold ow Pipeline.RDat.owesAt Pipeline.owesWithin Pipeline.RDat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ ow c O := by
  unfold ow Pipeline.RDat.owesAt Pipeline.owesWithin; rw [h0]
  iintro ⟨%W, -, HO⟩; iexists W; iexact HO

theorem stage_eq (s : Fin 1) : win0_0.stage s = oM := by fin_cases s; rfl
theorem t_eq (t : Fin cfg0.N) : t = t0_0 := by
  obtain ⟨t, ht⟩ := t; have : cfg0.N = 1 := N_0; simp only [t0_0, Fin.mk.injEq]; omega
theorem defs₀_row (t : Fin cfg0.N) : defs₀ (F := F) .tc cfg0.body (cfg0.bodyArgs t (cfg0.slots t)) = bodyAt0 t := by
  unfold defs₀; rw [Defs.onTc_tc]

theorem body_obl (c : Dev nD) : (dat m c).BodyObligation defs₀ 𝒱₀ () Set.univ := fun t Y _ => by
  obtain rfl := t_eq t
  rw [bigSep_W0, bigSep_W0, defs₀_row]
  rw [show (dat m c).Φ t0_0.castSucc = iprop(Xin m c ∗ scr c) from rfl,
    show (dat m c).Φ t0_0.succ = iprop(Yout m c ∗ all13 (fun k => semVal (dCell c k) 0) ∗ scr c) from rfl]
  show iprop((Xin m c ∗ scr c) ∗ (dat m c).owesAt () t0_0.castSucc ∗ owns (c : Thread nD τ) oM fullShare (Y 0)) ⊢ WP c bodyProg
    fun _ => iprop((Yout m c ∗ all13 (fun k => semVal (dCell c k) 0) ∗ scr c) ∗ (dat m c).owesAt () t0_0.succ
      ∗ ∃ X, ⌜∃ kh vh, Halo (Dm m) c kh vh ∧ X = outF (Dm m) c kh vh (Y 0)⌝ ∗ owns (c : Thread nD τ) oM fullShare X)
  simp only [owns_whole]
  unfold Xin Yout
  iintro ⟨⟨⟨⟨%K, Hop⟩, Hcr, #Hlev, Harr⟩, Hscr⟩, HO, Ho⟩
  ihave HO := (owesAt_elim m c t0_0.castSucc (O₀ c) rfl) $$ HO
  iapply (body_run (Dm m) K c (Y 0))
  isplitl [Hop]; · iexact Hop
  isplitl [Hcr]; · iexact Hcr
  isplitr; · iexact Hlev
  isplitl [Harr]; · iexact Harr
  isplitl [Hscr]; · iexact Hscr
  isplitl [Ho]; · iapply (Entails.of_eq (mpt_whole c cc0_stg0_0 fullShare (Y 0)).symm); iexact Ho
  isplitl [HO]; · iexact HO
  unfold left
  iintro ⟨Hb, Hs, Harr, Hscr, HO, ⟨%kh, %vh, %hH, Ho⟩⟩
  isplitl [Hb Hs Harr Hscr]
  · isplitl [Hb Harr]
    · isplitl [Hb]; · iexact Hb
      iexact Harr
    isplitl [Hs]; · iexact Hs
    iexact Hscr
  isplitl [HO]; · iapply (owesAt_intro m c t0_0.succ 0 rfl); iexact HO
  iexists _; isplitr; · ipureintro; exact ⟨kh, vh, hH, rfl⟩
  iapply (Entails.of_eq (mpt_whole c cc0_stg0_0 fullShare _)); iexact Ho

/-- From the launch to the region, beside the buffers. -/
def start (c : Dev nD) : sProp 𝕄 := iprop(ghost (Dm m) c ∗ creds c ∗ ow c (O₀ c))

/-- What is known of device `c`'s output array in the end. -/
def Out (c : Dev nD) (X : FVec F S2x256x512 .f32) : Prop := ∃ kh vh o, Halo (Dm m) c kh vh ∧ X = outF (Dm m) c kh vh o

def fin (c : Dev nD) : sProp 𝕄 :=
  iprop(arrs (Dm m) c ∗ (∃ X, ⌜Out m c X⌝ ∗ pt c main_v11 X) ∗ idle c (Dm m c) ∗ semVal (barCell c) 0)

theorem O₀_level (c : Dev nD) (g : GSem nD τ sig) (u : Unit) (h : 0 < O₀ c g u) : u ∈ L g ∧ (0 : ℕ) < lv g u := by
  cases u
  rw [O₀_apply] at h
  have h' : (∃ c' k, 9 ≤ k.val ∧ g = dCell c' k) ∨ ∃ c', g = barCell c' := by
    by_contra hn
    push Not at hn
    obtain ⟨h1, h2⟩ := hn
    rw [if_neg (fun e => h1 _ 12 (by decide) e.2), if_neg (fun e => h1 _ 11 (by decide) e.2), if_neg (fun e => h1 _ 10 (by decide) e.2),
      if_neg (fun e => h1 _ 9 (by decide) e.2), if_neg (fun e => h2 _ e.2), if_neg (fun e => h2 _ e.2)] at h
    exact absurd h (by decide)
  rcases h' with ⟨c', k, hk, rfl⟩ | ⟨c', rfl⟩
  · refine ⟨by rw [L_tc]; exact Finset.mem_singleton_self _, ?_⟩
    have h10 : 10 ≤ (dsem k).val := by show 10 ≤ k.val + 1; omega
    show 0 < (if 10 ≤ (dsem k).val then 2 else 0)
    rw [if_pos h10]; decide
  · exact ⟨by rw [L_tc]; exact Finset.mem_singleton_self _, Nat.one_pos⟩

theorem arrAt_out (c : Dev nD) (G : Buf (Elt F) ((c : Thread nD τ).loc main_v11)) (h : (dat m c).ArrAt 0 cfg0.N G) : Out m c G := by
  obtain ⟨X, ⟨Y, -, kh, vh, hH, hX⟩, hG⟩ := h.emb_eq_of_wholeAt (t₀ := t0_0) (by decide)
  refine ⟨kh, vh, Y, hH, ?_⟩
  rw [← hX]
  funext j
  exact hG j

local notation "ℝ𝕊" => Pipeline.RDat.RegionSeg (pcfgs (F := F)) adm (rdats m) () defs₀ 𝒱₀ L lv

set_option backward.isDefEq.respectTransparency.types false in
/-- The region. -/
def reg0 : ℝ𝕊 0 where
  win := winFacts0.to₀
  block_pos := block_pos0
  stage_whole := stage_whole0
  K := Fin 13
  osem := osem
  ho := osem_facts
  hbody c := body_obl m c
  hwaits c := Pipeline.RDat.cellsWaits_intro _ (rdats m) () 0 c fun w s t =>
    MayOwe.of_cut 0 (fun q hq => by rw [Finset.mem_singleton.mp hq, L_tc]; exact Finset.mem_singleton_self _)
      (fun g i hg => by
        change 0 < (if t.val = 0 then O₀ c else 0) g i at hg
        split at hg
        · exact (O₀_level c g i hg).1
        · exact absurd hg (Nat.lt_irrefl 0))
      (fun q hq => by
        rw [Finset.mem_singleton.mp hq]
        fin_cases w; fin_cases s; exact Nat.le_refl 0)
      (fun g i hg => by
        change 0 < (if t.val = 0 then O₀ c else 0) g i at hg
        split at hg
        · exact (O₀_level c g i hg).2
        · exact absurd hg (Nat.lt_irrefl 0))
  pre c := iprop(StableHlo.held (c : Thread nD τ) bufs (StableHlo.after hostOps0 (fun b => m (c, b))) ∗ start m c)
  post c := iprop(fin m c ∗ ow c 0)
  X c := Xin m c
  Y c := Yout m c
  Z c := idle c (Dm m c)
  hentry c := by
    rw [ownSems_eq]
    unfold start Xin
    iintro ⟨⟨Hh, Hg, Hcr, HO⟩, Hs, #Hlev⟩
    ihave Hh := (held_split m c) $$ Hh
    icases Hh with ⟨Harr, Hv, Hidle⟩
    imod (ghost_open (Dm m) c) $$ [Hg Hs] with Hop
    · isplitl [Hg]; · iexact Hg
      iexact Hs
    imodintro
    isplitl [Hv]
    · unfold Pipeline.RDat.arrays
      iapply (Entails.of_eq (show (pt c main_v11 (Dm m c main_v11) : sProp 𝕄) = _ from (by
        rw [show (rdats m 0 c) = dat m c from rfl]
        exact (((bigSep_W0 _).trans (mpt_whole c main_v11 fullShare (Dm m c main_v11))).symm))))
      iexact Hv
    isplitr
    · unfold Pipeline.prefHeld
      iempintro
    isplitl [HO]; · iapply (owesAt_intro m c 0 (O₀ c) rfl); iexact HO
    isplitl [Hop Hcr Harr]
    · isplitl [Hop]; · iexact Hop
      isplitl [Hcr]; · iexact Hcr
      isplitr; · iexact Hlev
      iexact Harr
    iexact Hidle
  hin c := by
    rw [show (rdats m 0 c).Φ 0 = iprop(Xin m c ∗ scr c) from rfl, scr_eq]
    iintro ⟨HX, -, Hs⟩
    isplitl [HX]; · iexact HX
    iexact Hs
  hout c := by
    rw [show (rdats m 0 c).Φ (Fin.last _) = iprop(Yout m c ∗ all13 (fun k => semVal (dCell c k) 0) ∗ scr c) from rfl, scr_eq, ownSems_eq]
  hexit c := by
    unfold Yout fin
    iintro ⟨Ha, HO, ⟨Hb, Harr⟩, Hidle⟩
    ihave Ha := (show ((rdats m 0 c).arraysAt (Pipeline.pin (pcfgs (F := F)) adm 0).N : sProp 𝕄) ⊢ iprop(∃ X, ⌜Out m c X⌝ ∗ pt c main_v11 X) from by
      unfold Pipeline.RDat.arraysAt
      refine (Entails.of_eq (bigSep_W0 _)).trans ?_
      iintro ⟨%G, %hG, H⟩
      iexists G
      isplitr; · ipureintro; exact arrAt_out m c G hG
      iapply (Entails.of_eq (mpt_whole c main_v11 fullShare G)); iexact H) $$ Ha
    ihave HO := (show ((rdats m 0 c).owesAt () (Fin.last (Pipeline.pin (pcfgs (F := F)) adm 0).N) : sProp 𝕄) ⊢ ow c 0 from owesAt_elim m c (Fin.last _) 0 rfl) $$ HO
    imodintro
    isplitr [HO]
    · isplitl [Harr]; · iexact Harr
      isplitl [Ha]; · iexact Ha
      isplitl [Hidle]; · iexact Hidle
      iexact Hb
    iexact HO

theorem ops_sub : ∀ op ∈ (hostOps0 : List (HloOp τ sig (Elt F))), op.bufs ⊆ bufs := fun op hop b hb =>
  Finset.mem_filter.mpr ⟨List.forall_iff_forall_mem.mp (hostOps0_sub (F := F)) op hop hb,
    fun h => Bool.false_ne_true ((op.no_scoped b hb).symm.trans h)⟩
theorem ops_fresh : ∀ op ∈ (hostOps0 : List (HloOp τ sig (Elt F))), op.fresh = ∅ := List.forall_iff_forall_mem.mp hostOps0_fresh

/-- The host operations, the protocol's state riding along. -/
def seg0 : Pipeline.HostSeg (Name := ℕ) (U := UU) (pcfgs (F := F)) defs₀ 𝒱₀ L lv :=
  Pipeline.HostSeg.ofOps _ _ _ _ _ bufs hostOps0 ops_sub ops_fresh (fun c b => m (c, b)) (start m)

def segs : List (Pipeline.RDat.Seg (pcfgs (F := F)) adm (rdats m) () defs₀ 𝒱₀ L lv) := [.host (seg0 m), .region (reg0 m)]

theorem main_eq (c : Dev nD) : main (F := F) c = Pipeline.RDat.Seg.run (segs m) := by
  rw [main_chain]; rfl

/-! ## The launch -/

/-- The launch element. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The exchange's part of the launch element, left on device 0. -/
def G (c : Dev nD) : sProp 𝕄 := if c = 0 then BI.own (ER (launchOf barCells dmaCells allToks)) else iprop(emp)
theorem G_all : bigSep Finset.univ (G (F := F)) = BI.own (ER (launchOf barCells dmaCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (fun b => m (c, b)) ∗ start m c)

/-- What device `c` holds at launch beside the exchange's state. -/
def bundle (c : Dev nD) : sProp 𝕄 := iprop(StableHlo.held (c : Thread nD τ) bufs (fun b => m (c, b)) ∗ creds c ∗ ow c (O₀ c))

theorem T₀_intro (K : GSem nD τ sig → ℕ) (c : Dev nD) : iprop(records (Dm m) K ∗ (linear c ∗ bundle m c)) ⊢ T₀ m c := by
  unfold bundle T₀ start ghost
  iintro ⟨#HR, Hl, Hh, Hcr, HO⟩
  isplitl [Hh]; · iexact Hh
  isplitl [Hl]
  · iexists K
    isplitr; · iexact HR
    iexact Hl
  isplitl [Hcr]; · iexact Hcr
  iexact HO

theorem unpair {A B : Dev nD → sProp 𝕄} : bigSep Finset.univ (fun c => iprop(A c ∗ B c)) ⊢ iprop(bigSep Finset.univ A ∗ bigSep Finset.univ B) :=
  Entails.of_eq (bigSep_sep' _ _ _)
theorem pairUp {A B : Dev nD → sProp 𝕄} : iprop(bigSep Finset.univ A ∗ bigSep Finset.univ B) ⊢ bigSep Finset.univ (fun c => iprop(A c ∗ B c)) :=
  Entails.of_eq (bigSep_sep' _ _ _).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (fun b => m (c, b)) from bufs_held c (fun b => m (c, b)),
      unscopedSems0_eq]
    unfold bundle ow
    iintro ⟨Hh, Hus, HO, Hcr, -, HG⟩
    ihave Hc := (launch_creds (F := F) c) $$ Hcr
    isplitl [Hh Hc HO]
    · isplitl [Hh]; · iexact Hh
      isplitl [Hc]; · iexact Hc
      iexists ∅; iexact HO
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep dmaCells (fun g => (openTok ER g : sProp 𝕄)) ⊢ bigSep Finset.univ (fun c : Dev nD => all13 (fun k => (openTok ER (dCell c k) : sProp 𝕄))) :=
    Entails.of_eq (by
      rw [bigSep_map, bigSep_univ_prod]
      exact bigSep_congr fun c _ => all13_eq (fun k => (openTok ER (dCell c k) : sProp 𝕄)))
  have hinv (K : GSem nD τ sig → ℕ) : bigSep (barCells ∪ dmaCells) (fun g => (cellInv ER (sched (Dm m)) (K g) g : sProp 𝕄)) ⊢ invs (Dm m) K := by
    rw [BI.bigSep_union cells_disjoint, bigSep_map, bigSep_map]
    unfold invs
    exact BI.Entails.refl _
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (Entails.of_eq (G_all (F := F))) $$ HG
  imod (Rounds.fund_launch ER (sched (Dm m)) cells_disjoint (fun g _ h => h) allToks) $$ [Hv Hu] with ⟨%κ, -, Hinv, Hr, Hat, Hopen, Htok⟩
  · isplitl [Hv]
    · iapply hv $$ Hv
    · iexact Hu
  imodintro
  ihave #Hinv := (hinv κ) $$ Hinv
  ihave #Hr := hr $$ Hr
  iapply (bigSep_with_persistent (R := records (Dm m) κ) (Φ := fun c => iprop(linear c ∗ bundle m c)) fun c _ => T₀_intro m κ c)
  isplitr
  · unfold records
    isplitr; · iexact Hinv
    iexact Hr
  iapply pairUp
  isplitr [HB]
  · unfold linear
    iapply pairUp; isplitl [Hat]; · iapply hat $$ Hat
    iapply pairUp; isplitl [Hopen]; · iapply hopen $$ Hopen
    iapply (toks_around (F := F))
    iapply (Entails.of_eq (toks_own (F := F))) $$ Htok
  · iexact HB

theorem unscoped_eq : ∀ sm : SemLoc sig, sm.isScoped .tc = false → sm = .reg barrier0 := by decide

/-- What is read off device `c`'s memory in the end. -/
def Final (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ Out m c (s.mem ((c : Thread nD τ).loc main_v11))

set_option backward.isDefEq.respectTransparency.types false in
/-- The run: every execution ends, the arguments unchanged, every output array as `Out` says, every counter at zero. -/
theorem run_main : θ_run defs (onTc (τ := τ) (main (F := F))) (s₀ m ρ)
    (fun r => (∀ c : Dev nD, Final m c r.2) ∧ r.2.sem = fun _ => 0) :=
  Pipeline.RDat.θ_run_regions_kit_sems (pcfgs (F := F)) adm (rdats m) () cellOf_inj EP defs₀ 𝒱₀ L lv m ρ main (segs m)
    (fun c Q => by rw [main_eq m c])
    (by simp only [segs, Pipeline.RDat.Seg.pipes_host, Pipeline.RDat.Seg.pipes_region, Pipeline.RDat.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := fin m)
    (hch := ⟨fun c => .rfl, fun c => .rfl, fun c => .rfl⟩)
    (hinit := init m ρ)
    (QY := fun c s => Final m c s ∧ s.sem (barCell c) = 0)
    (hfin := fun c s' => by
      unfold fin idle
      rw [arrs_eq]
      iintro ⟨⟨⟨Hx, -, -, -, -⟩, ⟨%X, %hX, Ho⟩, ⟨H1, H2, H3, H4, -⟩, Hb⟩, HSI⟩
      icombine HSI Hx gives %hx
      icombine HSI H1 gives %h1
      icombine HSI H2 gives %h2
      icombine HSI H3 gives %h3
      icombine HSI H4 gives %h4
      icombine HSI Ho gives %ho
      icombine HSI Hb gives %hb
      imodintro
      isplitr
      · ipureintro
        refine ⟨⟨?_, ?_, ?_, ?_, ?_, ?_⟩, by simpa using hb⟩
        · exact (Buf.eq_of_forall_mem_univ hx).trans (V_main_arg0 m c)
        · exact (Buf.eq_of_forall_mem_univ h1).trans (V_main_arg1 m c)
        · exact (Buf.eq_of_forall_mem_univ h2).trans (V_main_arg2 m c)
        · exact (Buf.eq_of_forall_mem_univ h3).trans (V_main_arg3 m c)
        · exact (Buf.eq_of_forall_mem_univ h4).trans (V_main_arg4 m c)
        · rw [show s'.mem.mem ((c : Thread nD τ).loc main_v11) = X from Buf.eq_of_forall_mem_univ ho]; exact hX
      iexact HSI)
    (hQ := fun s h hs => ⟨fun c => (h c).1, sem_eq_zero hs fun c sm hsm => by
        obtain rfl := unscoped_eq sm hsm
        exact (h c).2⟩)

end Cert.KernelIdeal.Win

end
-- ==== Proof.Frames.lean ====
/-
The frames: the kernel's, printed and idealized, from the one run of `Launch.lean`; the reference's from its list of
host operations.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_finite_inputs_KernelIdeal
public import proofs.«01_k».proof.Proof.Gen.Pre_finite_inputs_ReferenceIdeal

@[expose] public section

noncomputable section

namespace Cert.Proof

open Idealize.ShloMosaic Idealize.ShloMosaic.TcCoe Idealize.SL.Sem

/-- The kernel's text runs over any floats, its arguments unchanged, its counters at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h =>
    ⟨fun c => ⟨(h.1 c).1, (h.1 c).2.1, (h.1 c).2.2.1, (h.1 c).2.2.2.1, (h.1 c).2.2.2.2.1⟩, h.2⟩)
    (Cert.KernelIdeal.Win.run_main (F := F) m ρ)

/-- The idealized kernel's frame. -/
theorem frame_ideal : Cert.quiescent_KernelIdeal := fun m ρ _ => frame_any (F := Ideal) m ρ

/-- The two printings' body tables are one, row by row. -/
theorem bodies_eq {F : FTy → Type} [FloatOps F] : Cert.Kernel.defs₀ (F := F) = Cert.KernelIdeal.defs₀ (F := F) := by
  unfold Cert.Kernel.defs₀ Cert.KernelIdeal.defs₀
  refine congrArg (Defs.onTc (nD := 8)) ?_
  funext l a
  match l, a with
  | 0, (t, s) => rfl
  | ⟨_ + 1, h⟩, _ => exact absurd h (Nat.not_lt.2 (Nat.le_add_left _ _))
theorem defs_eq {F : FTy → Type} [FloatOps F] : Cert.Kernel.defs (F := F) = Cert.KernelIdeal.defs (F := F) :=
  congrArg (Pipeline.defs Cert.Kernel.pcfgs) bodies_eq

/-- The printed kernel's frame: the same text over the machine's floats. -/
theorem frame_kernel : Cert.quiescent_Kernel := fun m ρ _ => by
  rw [defs_eq]
  exact frame_any (F := Bits) m ρ

/-- And the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reals.lean ====
/-
The extended reals' sums, quotients and maxima of reals, and the constants the two programs name.
-/
module

public import Idealize.ShloMosaic.Lib.Pointwise

@[expose] public section

namespace Cert.Win

open Idealize.ShloMosaic

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe' (x y : ℝ) (h : y ≠ 0) : Ideal.div (x : EReal) (y : EReal) = ((x / y : ℝ) : EReal) := by
  rw [Ideal.div_coe h, ← EReal.coe_mul]; congr 1; ring

theorem exp_coe' (x : ℝ) : Ideal.exp (x : EReal) = (Real.exp x : EReal) := rfl

theorem if_coe (p : Prop) [Decidable p] (x y : ℝ) : (if p then (x : EReal) else (y : EReal)) = ((if p then x else y : ℝ) : EReal) := by
  split <;> rfl

theorem eighth : Ideal.ofBits .f32 0x3E000000#32 = ((0.125 : ℝ) : EReal) := by
  simp [Ideal.ofBits, Ideal.ieee]
  rw [← EReal.coe_mul]
  norm_num

theorem negInf : Ideal.ofBits .f32 0xFF800000#32 = ⊥ := by
  simp [Ideal.ofBits, Ideal.ieee]

/-- The maximum, from minus infinity, of a family that is real or minus infinity everywhere and real somewhere, is a real. -/
theorem fold_max_coe {ι : Type} [DecidableEq ι] (s : Finset ι) (f : ι → EReal) (hf : ∀ i, f i = ⊥ ∨ ∃ r : ℝ, f i = r) (i : ι) (hi : i ∈ s) (h : ∃ r : ℝ, f i = r) :
    ∃ M : ℝ, Finset.fold max ⊥ f s = M := by
  have key : ∀ t : Finset ι, Finset.fold max ⊥ f t = ⊥ ∨ ∃ r : ℝ, Finset.fold max ⊥ f t = r := by
    intro t
    induction t using Finset.induction_on with
    | empty => left; simp
    | insert a t ha ih =>
      rw [Finset.fold_insert ha]
      rcases max_choice (f a) (Finset.fold max ⊥ f t) with h' | h' <;> rw [h']
      · exact hf a
      · exact ih
  rw [← Finset.insert_erase hi, Finset.fold_insert (Finset.notMem_erase _ _)]
  obtain ⟨r, hr⟩ := h
  rcases key (s.erase i) with h' | ⟨r', h'⟩ <;> rw [h', hr]
  · exact ⟨r, by simp⟩
  · exact ⟨max r r', (EReal.coe_strictMono.monotone.map_max).symm⟩

end Cert.Win
-- ==== Proof.Finite.lean ====
/-
The precondition: every entry of every array is a real number.
-/
module

public import proofs.«01_k».proof.Defs
public import proofs.«01_k».proof.Proof.Reals
public import proofs.«01_k».proof.Proof.Gen.Pre_finite_inputs_KernelIdeal
public import Idealize.ShloMosaic.Lib.ReduceAll

@[expose] public section

namespace Cert.Win

open Idealize.ShloMosaic

/-- An entry that passes the test, its absolute value below infinity, is a real. -/
theorem real_of_test {s : Shape} (x : FVec Ideal s .f32) (h0 : (⟨0, ![]⟩ : Shape).BroadcastsInDim s ![]) (i : s.Idx)
    (h : cmpf .olt (Host.absf x) (broadcastInDim s ![] h0 (constant ⟨0, ![]⟩ .f32 0x7F800000#32)) i = 1#1) : ∃ r : ℝ, x i = (r : EReal) := by
  have ht : Ideal.ofBits .f32 0x7F800000#32 = ⊤ := by simp [Ideal.ofBits, Ideal.ieee]
  have h1 : Ideal.cmp .olt (max (x i : EReal) (-(x i))) (Ideal.ofBits .f32 0x7F800000#32) = 1#1 := h
  rw [ht] at h1
  generalize (x i : EReal) = z at h1
  induction z using EReal.rec with
  | bot => simp [Ideal.cmp] at h1
  | coe r => exact ⟨r, rfl⟩
  | top => simp [Ideal.cmp] at h1

end Cert.Win

namespace Cert.Pre_finite_inputs_KernelIdeal

open Idealize.ShloMosaic Cert.Win Cert.Pre_finite_inputs_KernelIdeal.Gen

theorem and_at (x y : IVec S_ 1) (h : andi x y = fun _ => 1#1) : (x = fun _ => 1#1) ∧ (y = fun _ => 1#1) := by
  constructor <;> funext i <;> have := congrFun h i
  · exact (IntOp.andi_eq_one.1 this).1
  · exact (IntOp.andi_eq_one.1 this).2

instance : Subsingleton S_.Idx := ⟨fun a b => funext fun z => z.elim0⟩

/-- The predicate's five conjuncts. -/
theorem real_of_fn (a0 : FVec Ideal S2x256x512 .f32) (a1 : FVec Ideal S512x256 .f32) (a2 a3 : FVec Ideal S2x256x4x64 .f32) (a4 : FVec Ideal S256x512 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ ∀ i, ∃ r : ℝ, a4 i = (r : EReal) := by
  unfold fn fn_part1 at h
  dsimp only at h
  obtain ⟨h, h4⟩ := and_at _ _ h
  obtain ⟨h, h3⟩ := and_at _ _ h
  obtain ⟨h, h2⟩ := and_at _ _ h
  obtain ⟨h0, h1⟩ := and_at _ _ h
  refine ⟨fun i => ?_, fun i => ?_, fun i => ?_, fun i => ?_, fun i => ?_⟩
  · exact real_of_test a0 _ i (Host.reduce_andi_all _ _ _ _ (fun z => z.elim0) (congrFun h0 _) i)
  · exact real_of_test a1 _ i (Host.reduce_andi_all _ _ _ _ (fun z => z.elim0) (congrFun h1 _) i)
  · exact real_of_test a2 _ i (Host.reduce_andi_all _ _ _ _ (fun z => z.elim0) (congrFun h2 _) i)
  · exact real_of_test a3 _ i (Host.reduce_andi_all _ _ _ _ (fun z => z.elim0) (congrFun h3 _) i)
  · exact real_of_test a4 _ i (Host.reduce_andi_all _ _ _ _ (fun z => z.elim0) (congrFun h4 _) i)

end Cert.Pre_finite_inputs_KernelIdeal
-- ==== Proof.Words.lean ====
/-
What the integer words of the masks decide.
-/
module

public import Idealize.ShloMosaic.Lib.Pointwise

@[expose] public section

namespace Cert.Win

open Idealize.ShloMosaic

/-- Query `i` sees key `j`: at most 128 apart. -/
abbrev near (i j : ℕ) : Prop := i ≤ j + 128 ∧ j ≤ i + 128

theorem toInt_small (a : ℕ) (h : a < 2048) : (BitVec.ofNat 32 a).toInt = a := by
  rw [BitVec.toInt_eq_toNat_cond, BitVec.toNat_ofNat]; norm_num; omega

theorem sle_iff (x y : BitVec 32) : IntOp.cmpi .sle x y = if x.toInt ≤ y.toInt then 1#1 else 0#1 := by
  show BitVec.ofBool (x.sle y) = _
  unfold BitVec.sle; by_cases h : x.toInt ≤ y.toInt <;> simp [h]
theorem sge_iff (x y : BitVec 32) : IntOp.cmpi .sge x y = if y.toInt ≤ x.toInt then 1#1 else 0#1 := by
  show BitVec.ofBool (y.sle x) = _
  unfold BitVec.sle; by_cases h : y.toInt ≤ x.toInt <;> simp [h]
theorem slt_iff (x y : BitVec 32) : IntOp.cmpi .slt x y = if x.toInt < y.toInt then 1#1 else 0#1 := by
  show BitVec.ofBool (x.slt y) = _
  unfold BitVec.slt; by_cases h : x.toInt < y.toInt <;> simp [h]

/-- The window as both programs compute it. -/
theorem near_word (a b : ℕ) (ha : a < 2048) (hb : b < 2048) :
    IntOp.cmpi .sle (IntOp.absi (IntOp.subi (BitVec.ofNat 32 a) (BitVec.ofNat 32 b))) 128#32 = if near a b then 1#1 else 0#1 := by
  have hA := toInt_small a ha
  have hB := toInt_small b hb
  have hS : (BitVec.ofNat 32 a - BitVec.ofNat 32 b).toInt = (a : ℤ) - b := by
    rw [BitVec.toInt_sub, hA, hB]; unfold Int.bmod; norm_num; omega
  have h128 : (128#32).toInt = 128 := by decide
  rw [sle_iff, h128]
  have hI : (IntOp.absi (IntOp.subi (BitVec.ofNat 32 a) (BitVec.ofNat 32 b))).toInt = |(a : ℤ) - b| := by
    unfold IntOp.absi IntOp.subi
    rw [BitVec.msb_eq_toInt, hS]
    by_cases h : (a : ℤ) - b < 0
    · simp only [h, decide_true, if_true]
      rw [BitVec.toInt_neg, hS, abs_of_neg h]; unfold Int.bmod; norm_num; omega
    · simp only [h, decide_false]
      rw [abs_of_nonneg (by omega)]; exact hS
  rw [hI]
  have : |(a : ℤ) - b| ≤ 128 ↔ near a b := by rw [abs_le]; unfold near; omega
  simp only [this]

/-- A one-bit choice by a decided condition. -/
theorem select_if {α : Type} (p : Prop) [Decidable p] (x y : α) : Scalar.select (if p then 1#1 else 0#1) x y = if p then x else y := by
  by_cases h : p <;> simp [h, Scalar.select]

theorem and_if (p q : Prop) [Decidable p] [Decidable q] : IntOp.andi (if p then 1#1 else 0#1) (if q then 1#1 else 0#1) = if p ∧ q then 1#1 else 0#1 := by
  by_cases h : p <;> by_cases h' : q <;> simp [h, h', IntOp.andi]
theorem or_if (p q : Prop) [Decidable p] [Decidable q] : IntOp.ori (if p then 1#1 else 0#1) (if q then 1#1 else 0#1) = if p ∨ q then 1#1 else 0#1 := by
  by_cases h : p <;> by_cases h' : q <;> simp [h, h', IntOp.ori]

/-- A one-bit "or" over a family is set where one member is. -/
theorem fold_or {ι : Type} [DecidableEq ι] (s : Finset ι) (f : ι → BitVec 1) (i : ι) (hi : i ∈ s) (h : f i = 1#1) : Finset.fold IntOp.ori 0#1 f s = 1#1 := by
  rw [← Finset.insert_erase hi, Finset.fold_insert (Finset.notMem_erase _ _), h]
  generalize Finset.fold IntOp.ori 0#1 f (s.erase i) = z
  revert z; decide

end Cert.Win
-- ==== Proof.Spec.lean ====
/-
Windowed attention over the reals: what both programs compute.
-/
module

public import proofs.«01_k».proof.Proof.Words
public import proofs.«01_k».proof.Proof.Reals

@[expose] public section

noncomputable section

namespace Cert.Win

open Idealize.ShloMosaic

/-- Head `h`'s column `d` among the 256. -/
abbrev col (h : Fin 4) (d : Fin 64) : Fin 256 := ⟨h.val * 64 + d.val, by omega⟩
/-- The head and the column within it of one of the 256. -/
abbrev hd (p : Fin 256) : Fin 4 := ⟨p.val / 64, by omega⟩
abbrev dd (p : Fin 256) : Fin 64 := ⟨p.val % 64, by omega⟩

/-- The five arrays, as reals. -/
structure Arrs where
  x : Fin 2 → Fin 2048 → Fin 512 → ℝ
  wq : Fin 512 → Fin 256 → ℝ
  k : Fin 2 → Fin 2048 → Fin 4 → Fin 64 → ℝ
  v : Fin 2 → Fin 2048 → Fin 4 → Fin 64 → ℝ
  wo : Fin 256 → Fin 512 → ℝ

variable (A : Arrs) (b : Fin 2) (h : Fin 4) (i j : Fin 2048)

/-- The scaled score of query `i` against key `j`. -/
def score : ℝ := (∑ d : Fin 64, (∑ e : Fin 512, A.x b i e * A.wq e (col h d)) * A.k b j h d) * 0.125
/-- The weight before the division: the score's exponential within the window. -/
def wt : ℝ := if near i j then Real.exp (score A b h i j) else 0
/-- The weights' sum. -/
def den : ℝ := ∑ j : Fin 2048, wt A b h i j
/-- The weighted sum of the values. -/
def num (d : Fin 64) : ℝ := ∑ j : Fin 2048, wt A b h i j * A.v b j h d
/-- One head's attention. -/
def att (d : Fin 64) : ℝ := num A b h i d / den A b h i
/-- The result. -/
def res (n : Fin 512) : ℝ := ∑ p : Fin 256, att A b (hd p) i (dd p) * A.wo p n

theorem wt_nonneg : 0 ≤ wt A b h i j := by
  unfold wt; split
  · exact (Real.exp_pos _).le
  · exact le_rfl
/-- A query sees at least itself. -/
theorem den_pos : 0 < den A b h i := by
  refine Finset.sum_pos' (fun j _ => wt_nonneg A b h i j) ⟨i, Finset.mem_univ _, ?_⟩
  unfold wt near; rw [if_pos (by omega)]; exact Real.exp_pos _

end Cert.Win
-- ==== Proof.RefVal.lean ====
/-
The reference's result, stage by stage: the window, the scores, their row maxima, the exponentials, the weights and
the output — each a named array, and the last read at an index.
-/
module

public import proofs.«01_k».proof.Proof.Gen.ReferenceIdeal.Run
public import Idealize.ShloMosaic.Lib.Pointwise
public import Idealize.ShloMosaic.Lib.IdealHost
public import proofs.«01_k».proof.Proof.Spec

@[expose] public section

set_option maxRecDepth 16384

noncomputable section

namespace Cert.ReferenceIdeal.Win

open Cert.ReferenceIdeal Cert.ReferenceIdeal.Gen
open Idealize.ShloMosaic
open Idealize.ShloMosaic.TcCoe

variable {F : FTy → Type} [FloatOps F]

/-- The window: query `i` sees key `k` where they are at most 128 apart. -/
def rMask : IVec S2048x2048 1 :=
  cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))
/-- The rows that see a key. -/
def rKeep : IVec S2048 1 := Host.reduce IntOp.ori rMask (constantI S_ 1 0#1) reducesTo_S2048x2048_S2048_d1 h_S_
/-- The scaled scores. -/
def rScore (x : FVec F S2x2048x512 .f32) (wq : FVec F S512x256 .f32) (k : FVec F S2x2048x4x64 .f32) : FVec F S2x4x2048x2048 .f32 :=
  mulf (Host.dotGeneral dot_S2x2048x4x64_S2x2048x4x64_S2x4x2048x2048_3_3_1_1_02_02 none (shapeCast _ (Host.dotGeneral dot_S2x2048x512_S512x256_S2x2048x256_2_0_01_1_n_n none x wq) shapeCasts_S2x2048x256_S2x2048x4x64) k) (broadcastInDim S2x4x2048x2048 ![] bcast_S_S2x4x2048x2048 (constant S_ .f32 0x3E000000#32))
/-- The scores within the window, minus infinity outside. -/
def rIn (s : FVec F S2x4x2048x2048 .f32) : FVec F S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 rMask)) s (broadcastInDim S2x4x2048x2048 ![] bcast_S_S2x4x2048x2048 (id (constant S_ .f32 0xFF800000#32)))
/-- Their row maxima. -/
def rMax (s : FVec F S2x4x2048x2048 .f32) : FVec F S2x4x2048 .f32 :=
  Host.reduce FloatOps.maximumf s (constant S_ .f32 0xFF800000#32) reducesTo_S2x4x2048x2048_S2x4x2048_d3 h_S_
/-- The exponentials of the scores less their row's maximum. -/
def rExp (s : FVec F S2x4x2048x2048 .f32) (mx : FVec F S2x4x2048 .f32) : FVec F S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2 mx)))
/-- The weights: each exponential by its row's sum. -/
def rW (kp : IVec S2048 1) (e : FVec F S2x4x2048x2048 .f32) : FVec F S2x4x2048x2048 .f32 :=
  select (broadcastInDim S2x4x2048x2048 ![0, 1, 2, 3] bcast_S1x1x2048x1_S2x4x2048x2048_0_1_2_3 (broadcastInDim S1x1x2048x1 ![2] bcast_S2048_S1x1x2048x1_2 kp)) (Host.divf e (broadcastInDim S2x4x2048x2048 ![0, 1, 2, 3] bcast_S2x4x2048x1_S2x4x2048x2048_0_1_2_3 (select (broadcastInDim S2x4x2048x1 ![0, 1, 2, 3] bcast_S1x1x2048x1_S2x4x2048x1_0_1_2_3 (broadcastInDim S1x1x2048x1 ![2] bcast_S2048_S1x1x2048x1_2 kp)) (broadcastInDim S2x4x2048x1 ![0, 1, 2] bcast_S2x4x2048_S2x4x2048x1_0_1_2 (Host.reduceAdd e (constant S_ .f32 0x00000000#32) reducesTo_S2x4x2048x2048_S2x4x2048_d3 h_S_)) (broadcastInDim S2x4x2048x1 ![] bcast_S_S2x4x2048x1 (id (constant S_ .f32 0x3F800000#32)))))) (broadcastInDim S2x4x2048x2048 ![] bcast_S_S2x4x2048x2048 (id (constant S_ .f32 0x00000000#32)))
/-- The output from the weights. -/
def rOut (w : FVec F S2x4x2048x2048 .f32) (v : FVec F S2x2048x4x64 .f32) (wo : FVec F S256x512 .f32) : FVec F S2x2048x512 .f32 :=
  Host.dotGeneral dot_S2x2048x256_S256x512_S2x2048x512_2_0_01_1_n_n none (shapeCast _ (transpose S2x2048x4x64 [0, 3, 1, 2] (Host.dotGeneral dot_S2x2048x4x64_S2x4x2048x2048_S2x4x64x2048_1_3_3_2_02_01 none v w) transposes_S2x4x64x2048_S2x2048x4x64_0_3_1_2) shapeCasts_S2x2048x4x64_S2x2048x256) wo
/-- The whole. -/
def rRes (x : FVec F S2x2048x512 .f32) (wq : FVec F S512x256 .f32) (k v : FVec F S2x2048x4x64 .f32) (wo : FVec F S256x512 .f32) : FVec F S2x2048x512 .f32 :=
  rOut (rW rKeep (rExp (rIn (rScore x wq k)) (rMax (rIn (rScore x wq k))))) v wo

/-- The reference's result is this composition. -/
theorem res_eq (m : (ℓ : Loc nD τ sig) → Buf (Elt F) ℓ) (c : Dev nD) :
    Value.res_main_v34 m c = rRes (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rfl

section
open Cert.Win

theorem rMask_at (i j : Fin 2048) : rMask (ix2 i j) = if near i j then 1#1 else 0#1 := by
  pointwise [rMask]
  exact near_word i j i.isLt j.isLt
/-- Every row sees a key: itself. -/
theorem rKeep_at (i : Fin 2048) : rKeep (ix1 i) = 1#1 := by
  pointwise [rKeep]
  refine fold_or _ _ i (Finset.mem_univ _) ?_
  rw [rMask_at]; exact if_pos (by unfold near; omega)
theorem rScore_at (x : FVec Ideal S2x2048x512 .f32) (wq : FVec Ideal S512x256 .f32) (k : FVec Ideal S2x2048x4x64 .f32) (b : Fin 2) (h : Fin 4) (i j : Fin 2048) :
    rScore x wq k (ix4 b h i j) = (∑ d : Fin 64, (∑ e : Fin 512, x (ix3 b i e) * wq (ix2 e (col h d))) * k (ix4 b j h d)) * Ideal.ofBits .f32 0x3E000000#32 := by
  pointwise [rScore]
theorem rIn_at (s : FVec Ideal S2x4x2048x2048 .f32) (b : Fin 2) (h : Fin 4) (i j : Fin 2048) :
    rIn s (ix4 b h i j) = if near i j then s (ix4 b h i j) else ⊥ := by
  pointwise [rIn]
  rw [rMask_at, select_if]
  congr 1
theorem rMax_at (s : FVec Ideal S2x4x2048x2048 .f32) (b : Fin 2) (h : Fin 4) (i : Fin 2048) :
    rMax s (ix3 b h i) = Finset.fold max ⊥ (fun j : Fin 2048 => s (ix4 b h i j)) Finset.univ := by
  pointwise [rMax]
  rw [negInf]
theorem rExp_at (s : FVec Ideal S2x4x2048x2048 .f32) (mx : FVec Ideal S2x4x2048 .f32) (b : Fin 2) (h : Fin 4) (i j : Fin 2048) :
    rExp s mx (ix4 b h i j) = Ideal.exp (s (ix4 b h i j) - mx (ix3 b h i)) := by
  pointwise [rExp]
theorem rW_at (kp : IVec S2048 1) (e : FVec Ideal S2x4x2048x2048 .f32) (b : Fin 2) (h : Fin 4) (i j : Fin 2048) (hk : kp (ix1 i) = 1#1) :
    rW kp e (ix4 b h i j) = Ideal.div (e (ix4 b h i j)) (∑ j' : Fin 2048, e (ix4 b h i j')) := by
  pointwise [rW]
  rw [hk]; rfl
theorem rOut_at (w : FVec Ideal S2x4x2048x2048 .f32) (v : FVec Ideal S2x2048x4x64 .f32) (wo : FVec Ideal S256x512 .f32) (b : Fin 2) (i : Fin 2048) (n : Fin 512) :
    rOut w v wo (ix3 b i n) = ∑ p : Fin 256, (∑ j : Fin 2048, v (ix4 b j (hd p) (dd p)) * w (ix4 b (hd p) i j)) * wo (ix2 p n) := by
  pointwise [rOut]

variable (A : Arrs) (x : FVec Ideal S2x2048x512 .f32) (wq : FVec Ideal S512x256 .f32) (k v : FVec Ideal S2x2048x4x64 .f32) (wo : FVec Ideal S256x512 .f32)
  (hx : ∀ b i e, x (ix3 b i e) = (A.x b i e : EReal)) (hwq : ∀ e p, wq (ix2 e p) = (A.wq e p : EReal)) (hk : ∀ b j h d, k (ix4 b j h d) = (A.k b j h d : EReal))
  (hv : ∀ b j h d, v (ix4 b j h d) = (A.v b j h d : EReal)) (hwo : ∀ p n, wo (ix2 p n) = (A.wo p n : EReal))
include hx hwq hk

theorem rScore_real (b : Fin 2) (h : Fin 4) (i j : Fin 2048) : rScore x wq k (ix4 b h i j) = (score A b h i j : EReal) := by
  rw [rScore_at, eighth]
  simp only [hx, hwq, hk, ← EReal.coe_mul, sum_coe]
  rfl

/-- The row's maximum is a real. -/
theorem rMax_real (b : Fin 2) (h : Fin 4) (i : Fin 2048) : ∃ M : ℝ, rMax (rIn (rScore x wq k)) (ix3 b h i) = (M : EReal) := by
  rw [rMax_at]
  refine fold_max_coe _ _ (fun j => ?_) i (Finset.mem_univ _) ?_
  · rw [rIn_at, rScore_real A x wq k hx hwq hk]
    split
    · exact .inr ⟨_, rfl⟩
    · exact .inl rfl
  · rw [rIn_at, rScore_real A x wq k hx hwq hk, if_pos (by unfold near; omega)]
    exact ⟨_, rfl⟩

/-- The weight is the spec's, the maximum cancelled. -/
theorem rW_real (b : Fin 2) (h : Fin 4) (i j : Fin 2048) :
    rW rKeep (rExp (rIn (rScore x wq k)) (rMax (rIn (rScore x wq k)))) (ix4 b h i j) = ((wt A b h i j / den A b h i : ℝ) : EReal) := by
  obtain ⟨M, hM⟩ := rMax_real A x wq k hx hwq hk b h i
  have he : ∀ j, rExp (rIn (rScore x wq k)) (rMax (rIn (rScore x wq k))) (ix4 b h i j) = ((wt A b h i j * Real.exp (-M) : ℝ) : EReal) := by
    intro j
    rw [rExp_at, hM, rIn_at, rScore_real A x wq k hx hwq hk]
    unfold wt
    split
    · rw [← EReal.coe_sub, exp_coe', sub_eq_add_neg, Real.exp_add]
    · rw [EReal.bot_sub, zero_mul]; rfl
  rw [rW_at _ _ _ _ _ _ (rKeep_at i), he]
  simp only [he, sum_coe]
  have hd0 := den_pos A b h i
  have hE := Real.exp_pos (-M)
  have hs : ∑ j : Fin 2048, wt A b h i j * Real.exp (-M) = den A b h i * Real.exp (-M) := by
    unfold den; rw [Finset.sum_mul]
  rw [hs, div_coe' _ _ (by positivity)]
  refine congrArg Real.toEReal ?_
  rw [mul_div_mul_right _ _ hE.ne']

include hv hwo in
/-- The reference's result is the spec's. -/
theorem rRes_real (b : Fin 2) (i : Fin 2048) (n : Fin 512) : rRes x wq k v wo (ix3 b i n) = (res A b i n : EReal) := by
  unfold rRes
  rw [rOut_at]
  simp only [rW_real A x wq k hx hwq hk, hv, hwo, ← EReal.coe_mul, sum_coe]
  refine congrArg Real.toEReal ?_
  unfold res att num
  refine Finset.sum_congr rfl fun p _ => ?_
  rw [Finset.sum_div]
  refine congrArg (· * A.wo p n) ?_
  refine Finset.sum_congr rfl fun j _ => ?_
  ring
end

end Cert.ReferenceIdeal.Win
-- ==== Proof.Heads.lean ====
/-
One head of one batch, as the body computes it: the query rows, the masked weights against the device's own keys and
against the halo keys, the two contexts added and divided by the two row sums. The body's outputs are four such heads
through the output weights, added up.
-/
module

public import proofs.«01_k».proof.Proof.Body

@[expose] public section

noncomputable section

namespace Cert.KernelIdeal.Win

open Cert.KernelIdeal Cert.KernelIdeal.Gen
open Idealize.ShloMosaic
open Idealize.ShloMosaic.TcCoe

variable {F : FTy → Type} [FloatOps F]

theorem in3x (b : Fin 2) : ∀ a, (![b.val, 0, 0] : Fin 3 → ℕ) a + S1x256x512.size a ≤ S2x256x512.size a := by revert b; decide
theorem in3w (h : Fin 4) : ∀ a, (![h.val, 0, 0] : Fin 3 → ℕ) a + S1x512x64.size a ≤ S4x512x64.size a := by revert h; decide
theorem in4 (b : Fin 2) (h : Fin 4) : ∀ a, (![b.val, h.val, 0, 0] : Fin 4 → ℕ) a + S1x1x256x64.size a ≤ S2x4x256x64.size a := by revert b h; decide
theorem in2 (h : Fin 4) : ∀ a, (![64 * h.val, 0] : Fin 2 → ℕ) a + S64x512.size a ≤ S256x512.size a := by revert h; decide

/-- Batch `b`'s rows of the input. -/
def ldX (x : xM.view.ty.Contents (Elt F)) (b : Fin 2) : Vec F S1x256x512 .f32 :=
  xM.view.readAt (Elt F) (Rect.unit (s := S2x256x512) ![b.val, 0, 0] S1x256x512.size (in3x b)).toLoadRect x
/-- Head `h`'s query weights. -/
def ldW (w : wqM.view.ty.Contents (Elt F)) (h : Fin 4) : Vec F S1x512x64 .bf16 :=
  wqM.view.readAt (Elt F) (Rect.unit (s := S4x512x64) ![h.val, 0, 0] S1x512x64.size (in3w h)).toLoadRect w
/-- Batch `b`, head `h` of a key or value tile. -/
def ldK (M : Memref sig .tc .vmem S2x4x256x64 .bf16) (k : M.view.ty.Contents (Elt F)) (b : Fin 2) (h : Fin 4) : Vec F S1x1x256x64 .bf16 :=
  M.view.readAt (Elt F) (Rect.unit (s := S2x4x256x64) ![b.val, h.val, 0, 0] S1x1x256x64.size (in4 b h)).toLoadRect k
/-- Head `h`'s rows of the output weights. -/
def ldO (wo : woM.view.ty.Contents (Elt F)) (h : Fin 4) : Vec F S64x512 .bf16 :=
  woM.view.readAt (Elt F) (Rect.unit (s := S256x512) ![64 * h.val, 0] S64x512.size (in2 h)).toLoadRect wo

/-- The window among a device's own rows, and the halo's window. -/
def mLoc : IVec S256x256 1 := k0_pay5 k0_pay4
def mHalo (c : Dev nD) : IVec S256x256 1 :=
  k0_pay46 (wd c) (iota .tc S256x256 32 [0] iota_S256x256_d0_w32) (iota .tc S256x256 32 [1] iota_S256x256_d1_w32) (k0_pay44 (wd c)) k0_pay45

/-- The query rows. -/
def qV (X : Vec F S1x256x512 .f32) (w : Vec F S1x512x64 .bf16) : FVec F S256x64 .bf16 :=
  truncf .bf16 (matmul dot_S256x512_S512x64_S256x64_1_0_0_1_n_n none (truncf .bf16 (shapeCast S256x512 X shapeCasts_S1x256x512_S256x512) bitsLt_bf16_f32)
    (shapeCast S512x64 w shapeCasts_S1x512x64_S512x64) (constant S256x64 .f32 0x00000000#32)) bitsLt_bf16_f32
/-- The masked weights of query rows against key rows. -/
def wV (mk : IVec S256x256 1) (q : FVec F S256x64 .bf16) (k : Vec F S1x1x256x64 .bf16) : FVec F S256x256 .f32 :=
  select mk (exp (matmul dot_S256x64_S256x64_S256x256_1_1_0_0_n_n none q (shapeCast S256x64 k shapeCasts_S1x1x256x64_S256x64) (constant S256x256 .f32 0x00000000#32)))
    (broadcast S256x256 (Scalar.ofBits .f32 0x00000000#32 : F .f32))
/-- The weights' context: the weighted sum of the value rows. -/
def cV (w : FVec F S256x256 .f32) (v : Vec F S1x1x256x64 .bf16) : FVec F S256x64 .f32 :=
  matmul dot_S256x256_S256x64_S256x64_1_0_0_1_n_n none (truncf .bf16 w bitsLt_bf16_f32) (shapeCast S256x64 v shapeCasts_S1x1x256x64_S256x64) (constant S256x64 .f32 0x00000000#32)
/-- The weights' row sums. -/
def lV (w : FVec F S256x256 .f32) : FVec F S256x1 .f32 :=
  shapeCast S256x1 (multiReduction .add [1] S256 w 0x00000000#32 reduces_S256x256_S256 (.inl rfl) rfl) shapeCasts_S256_S256x1
/-- A head from its two weight matrices. -/
def hV (w wh : FVec F S256x256 .f32) (v vh : Vec F S1x1x256x64 .bf16) : FVec F S256x64 .bf16 :=
  truncf .bf16 (divf (addf (cV w v) (cV wh vh)) (broadcastTo S256x64 (addf (lV w) (lV wh)) broadcasts_S256x1_S256x64)) bitsLt_bf16_f32
/-- A head through its rows of the output weights. -/
def oV (h : FVec F S256x64 .bf16) (wo : Vec F S64x512 .bf16) : FVec F S256x512 .f32 :=
  matmul dot_S256x64_S64x512_S256x512_1_0_0_1_n_n none h wo (constant S256x512 .f32 0x00000000#32)

section
variable (c : Dev nD) (x : xM.view.ty.Contents (Elt F)) (wq : wqM.view.ty.Contents (Elt F)) (k : kM.view.ty.Contents (Elt F)) (v : vM.view.ty.Contents (Elt F))
    (wo : woM.view.ty.Contents (Elt F)) (kh : khM.view.ty.Contents (Elt F)) (vh : vhM.view.ty.Contents (Elt F)) (o : oM.view.ty.Contents (Elt F)) (b : Fin 2)

/-- Head `h` of batch `b`. -/
def headV (h : Fin 4) : FVec F S256x64 .bf16 :=
  hV (wV mLoc (qV (ldX x b) (ldW wq h)) (ldK kM k b h)) (wV (mHalo c) (qV (ldX x b) (ldW wq h)) (ldK khM kh b h)) (ldK vM v b h) (ldK vhM vh b h)
/-- Batch `b`'s output. -/
def outV : FVec F S256x512 .f32 :=
  addf (addf (addf (addf (broadcast S256x512 (Scalar.ofBits .f32 0x00000000#32 : F .f32))
    (oV (headV c x wq k v kh vh b 0) (ldO wo 0))) (oV (headV c x wq k v kh vh b 1) (ldO wo 1))) (oV (headV c x wq k v kh vh b 2) (ldO wo 2)))
    (oV (headV c x wq k v kh vh b 3) (ldO wo 3))
end

/-- The body's outputs are the two batches' outputs. -/
theorem outs_eq (c : Dev nD) (x : xM.view.ty.Contents (Elt F)) (wq : wqM.view.ty.Contents (Elt F)) (k : kM.view.ty.Contents (Elt F)) (v : vM.view.ty.Contents (Elt F))
    (wo : woM.view.ty.Contents (Elt F)) (kh : khM.view.ty.Contents (Elt F)) (vh : vhM.view.ty.Contents (Elt F)) (o : oM.view.ty.Contents (Elt F)) :
    outs c x wq k v wo kh vh o
      = (shapeCast S1x256x512 (outV c x wq k v wo kh vh 0) shapeCasts_S256x512_S1x256x512, shapeCast S1x256x512 (outV c x wq k v wo kh vh 1) shapeCasts_S256x512_S1x256x512) := by
  rfl

end Cert.KernelIdeal.Win
-- ==== Proof.HeadsAt.lean ====
/-
The heads' steps read at an index, over the extended reals.
-/
module

public import proofs.«01_k».proof.Proof.Heads
public import Idealize.ShloMosaic.Lib.Pointwise
public import Idealize.ShloMosaic.Lib.StableHlo.ReadAt
public import proofs.«01_k».proof.Proof.Spec

@[expose] public section

set_option maxRecDepth 16384

noncomputable section

namespace Cert.KernelIdeal.Win

open Cert.KernelIdeal Cert.KernelIdeal.Gen
open Idealize.ShloMosaic
open Idealize.ShloMosaic.TcCoe
open Cert.Win

theorem qV_at (X : Vec Ideal S1x256x512 .f32) (w : Vec Ideal S1x512x64 .bf16) (r : Fin 256) (d : Fin 64) :
    qV X w (ix2 r d) = ∑ e : Fin 512, X (ix3 0 r e) * w (ix3 0 e d) := by
  pointwise [qV]
theorem wV_at (mk : IVec S256x256 1) (q : FVec Ideal S256x64 .bf16) (k : Vec Ideal S1x1x256x64 .bf16) (r j : Fin 256) :
    wV mk q k (ix2 r j) = Scalar.select (mk (ix2 r j)) (Ideal.exp (∑ d : Fin 64, q (ix2 r d) * k (ix4 0 0 j d))) 0 := by
  pointwise [wV]
theorem cV_at (w : FVec Ideal S256x256 .f32) (v : Vec Ideal S1x1x256x64 .bf16) (r : Fin 256) (d : Fin 64) :
    cV w v (ix2 r d) = ∑ j : Fin 256, w (ix2 r j) * v (ix4 0 0 j d) := by
  pointwise [cV]
theorem lV_at (w : FVec Ideal S256x256 .f32) (r : Fin 256) : lV w (ix2 r 0) = ∑ j : Fin 256, w (ix2 r j) := by
  pointwise [lV]
theorem hV_at (w wh : FVec Ideal S256x256 .f32) (v vh : Vec Ideal S1x1x256x64 .bf16) (r : Fin 256) (d : Fin 64) :
    hV w wh v vh (ix2 r d) = Ideal.div ((∑ j : Fin 256, w (ix2 r j) * v (ix4 0 0 j d)) + ∑ j : Fin 256, wh (ix2 r j) * vh (ix4 0 0 j d))
      ((∑ j : Fin 256, w (ix2 r j)) + ∑ j : Fin 256, wh (ix2 r j)) := by
  pointwise [hV, cV, lV]
theorem oV_at (h : FVec Ideal S256x64 .bf16) (wo : Vec Ideal S64x512 .bf16) (r : Fin 256) (n : Fin 512) :
    oV h wo (ix2 r n) = ∑ d : Fin 64, h (ix2 r d) * wo (ix2 d n) := by
  pointwise [oV]

theorem ldX_at (x : xM.view.ty.Contents (Elt Ideal)) (b : Fin 2) (r : Fin 256) (e : Fin 512) : ldX x b (ix3 0 r e) = (x : S2x256x512.Idx → Elt Ideal .f32) (ix3 b r e) := by
  refine congrArg (x : S2x256x512.Idx → Elt Ideal .f32) (funext fun a => Fin.ext ?_)
  fin_cases a
  · show b.val + 1 * 0 = b.val; omega
  · show 0 + 1 * r.val = r.val; omega
  · show 0 + 1 * e.val = e.val; omega
theorem ldW_at (w : wqM.view.ty.Contents (Elt Ideal)) (h : Fin 4) (e : Fin 512) (d : Fin 64) : ldW w h (ix3 0 e d) = (w : S4x512x64.Idx → Elt Ideal .bf16) (ix3 h e d) := by
  refine congrArg (w : S4x512x64.Idx → Elt Ideal .bf16) (funext fun a => Fin.ext ?_)
  fin_cases a
  · show h.val + 1 * 0 = h.val; omega
  · show 0 + 1 * e.val = e.val; omega
  · show 0 + 1 * d.val = d.val; omega
theorem idx4 (b : Fin 2) (h : Fin 4) (j : Fin 256) (d : Fin 64) :
    (Rect.unit (s := S2x4x256x64) ![b.val, h.val, 0, 0] S1x1x256x64.size (in4 b h)).toLoadRect.idx (ix4 0 0 j d) = ix4 b h j d := by
  refine funext fun a => Fin.ext ?_
  fin_cases a
  · show b.val + 1 * 0 = b.val; omega
  · show h.val + 1 * 0 = h.val; omega
  · show 0 + 1 * j.val = j.val; omega
  · show 0 + 1 * d.val = d.val; omega
theorem ldk_at (k : kM.view.ty.Contents (Elt Ideal)) (b : Fin 2) (h : Fin 4) (j : Fin 256) (d : Fin 64) : ldK kM k b h (ix4 0 0 j d) = (k : S2x4x256x64.Idx → Elt Ideal .bf16) (ix4 b h j d) :=
  congrArg (k : S2x4x256x64.Idx → Elt Ideal .bf16) (idx4 b h j d)
theorem ldv_at (k : vM.view.ty.Contents (Elt Ideal)) (b : Fin 2) (h : Fin 4) (j : Fin 256) (d : Fin 64) : ldK vM k b h (ix4 0 0 j d) = (k : S2x4x256x64.Idx → Elt Ideal .bf16) (ix4 b h j d) :=
  congrArg (k : S2x4x256x64.Idx → Elt Ideal .bf16) (idx4 b h j d)
theorem ldkh_at (k : khM.view.ty.Contents (Elt Ideal)) (b : Fin 2) (h : Fin 4) (j : Fin 256) (d : Fin 64) : ldK khM k b h (ix4 0 0 j d) = (k : S2x4x256x64.Idx → Elt Ideal .bf16) (ix4 b h j d) :=
  congrArg (k : S2x4x256x64.Idx → Elt Ideal .bf16) (idx4 b h j d)
theorem ldvh_at (k : vhM.view.ty.Contents (Elt Ideal)) (b : Fin 2) (h : Fin 4) (j : Fin 256) (d : Fin 64) : ldK vhM k b h (ix4 0 0 j d) = (k : S2x4x256x64.Idx → Elt Ideal .bf16) (ix4 b h j d) :=
  congrArg (k : S2x4x256x64.Idx → Elt Ideal .bf16) (idx4 b h j d)
theorem ldO_at (w : woM.view.ty.Contents (Elt Ideal)) (h : Fin 4) (d : Fin 64) (n : Fin 512) : ldO w h (ix2 d n) = (w : S256x512.Idx → Elt Ideal .bf16) (ix2 (col h d) n) := by
  refine congrArg (w : S256x512.Idx → Elt Ideal .bf16) (funext fun a => Fin.ext ?_)
  fin_cases a
  · show 64 * h.val + 1 * d.val = h.val * 64 + d.val; omega
  · show 0 + 1 * n.val = n.val; omega

theorem mLoc_at (r j : Fin 256) : mLoc (ix2 r j) = if near j r then 1#1 else 0#1 := by
  pointwise [mLoc, k0_pay5, k0_pay4]
  exact near_word j r (by omega) (by omega)

/-- The halo rows a row of device `c` sees: of the left neighbour's last 128 rows those not before it, of the right
    neighbour's first 128 those not after it. -/
abbrev nearH (c : Dev nD) (r j : Fin 256) : Prop := ((j.val < 128 ∧ r.val ≤ j.val) ∧ HasL c) ∨ ((128 ≤ j.val ∧ j.val ≤ r.val) ∧ HasR c)

theorem hasL_word (c : Dev nD) : Scalar.cmpi .sgt (wd c) 0#32 = if HasL c then 1#1 else 0#1 := by revert c; decide
theorem hasR_word (c : Dev nD) : Scalar.cmpi .slt (wd c) 7#32 = if HasR c then 1#1 else 0#1 := by revert c; decide

theorem mHalo_at (c : Dev nD) (r j : Fin 256) : mHalo c (ix2 r j) = if nearH c r j then 1#1 else 0#1 := by
  pointwise [mHalo, k0_pay44, k0_pay45, k0_pay46]
  rw [hasL_word, hasR_word, slt_iff, sge_iff, sge_iff, sle_iff, toInt_small j (by omega), toInt_small r (by omega), show (128#32).toInt = 128 by decide]
  simp only [and_if, or_if]
  have e : (((((j.val : ℤ) < 128 ∧ (r.val : ℤ) ≤ j.val) ∧ HasL c) ∨ ((128 ≤ (j.val : ℤ) ∧ (j.val : ℤ) ≤ r.val) ∧ HasR c))) ↔ nearH c r j := by
    unfold nearH; norm_cast
  simp only [e]

theorem emb0 (r : Fin 256) (n : Fin 512) : oR0.emb (ix3 0 r n) = (ix3 0 r n : S2x256x512.Idx) := by
  refine funext fun a => Fin.ext ?_
  fin_cases a
  · rfl
  · show 0 + 1 * r.val = r.val; omega
  · show 0 + 1 * n.val = n.val; omega
theorem emb1 (r : Fin 256) (n : Fin 512) : oR1.emb (ix3 0 r n) = (ix3 1 r n : S2x256x512.Idx) := by
  refine funext fun a => Fin.ext ?_
  fin_cases a
  · rfl
  · show 0 + 1 * r.val = r.val; omega
  · show 0 + 1 * n.val = n.val; omega
theorem off1 (r : Fin 256) (n : Fin 512) : (ix3 0 r n : S2x256x512.Idx) ∉ (Finset.univ : Finset oR1.shape.Idx).map oR1.emb := by
  intro hm
  obtain ⟨y, -, hy⟩ := Finset.mem_map.mp hm
  have h1 : (1 + 1 * (y 0).val) = 0 := congrArg (fun z : S2x256x512.Idx => (z 0).val) hy
  omega

/-- The two batches' stores, read back. -/
theorem stored0 (o : oM.view.ty.Contents (Elt Ideal)) (X Y : FVec Ideal S1x256x512 .f32) (r : Fin 256) (n : Fin 512) :
    oM.view.read (Elt Ideal) ((oM.access oR1).write (Elt Ideal) ((oM.access oR0).write (Elt Ideal) o X Finset.univ) Y Finset.univ) (ix3 0 r n) = X (ix3 0 r n) := by
  have h := View.read_slice_write_of_not_mem (v := oM.view) (Val := Elt Ideal) oR1 ((oM.view.slice oR0).write (Elt Ideal) o X Finset.univ) Y Finset.univ (off1 r n)
  have h' := View.read_slice_write_emb (v := oM.view) (Val := Elt Ideal) oR0 o X (Finset.mem_univ (ix3 0 r n))
  rw [emb0] at h'
  exact h.trans h'
theorem stored1 (f : oM.view.ty.Contents (Elt Ideal)) (Y : FVec Ideal S1x256x512 .f32) (r : Fin 256) (n : Fin 512) :
    oM.view.read (Elt Ideal) ((oM.access oR1).write (Elt Ideal) f Y Finset.univ) (ix3 1 r n) = Y (ix3 0 r n) := by
  have h' := View.read_slice_write_emb (v := oM.view) (Val := Elt Ideal) oR1 f Y (Finset.mem_univ (ix3 0 r n))
  rw [emb1] at h'
  exact h'
theorem cast_out (V : FVec Ideal S256x512 .f32) (r : Fin 256) (n : Fin 512) : shapeCast S1x256x512 V shapeCasts_S256x512_S1x256x512 (ix3 0 r n) = V (ix2 r n) := by
  pointwise

/-- A batch's output in the output tile. -/
theorem outF_at (D : Data Ideal) (c : Dev nD) (kh : khM.view.ty.Contents (Elt Ideal)) (vh : vhM.view.ty.Contents (Elt Ideal)) (o : oM.view.ty.Contents (Elt Ideal))
    (b : Fin 2) (r : Fin 256) (n : Fin 512) :
    oM.view.read (Elt Ideal) (outF D c kh vh o) (ix3 b r n)
      = outV c (D c main_arg0) (D c main_v9) (D c main_v2) (D c main_v4) (D c main_v10) kh vh b (ix2 r n) := by
  unfold outF
  rw [outs_eq]
  match b with
  | 0 => exact (stored0 o _ _ r n).trans (cast_out (outV c (D c main_arg0) (D c main_v9) (D c main_v2) (D c main_v4) (D c main_v10) kh vh 0) r n)
  | 1 => exact (stored1 _ _ r n).trans (cast_out (outV c (D c main_arg0) (D c main_v9) (D c main_v2) (D c main_v4) (D c main_v10) kh vh 1) r n)

/-- A halo half read at an index, and a tile's half. -/
theorem readA_at (M : Memref sig .tc .vmem S2x4x256x64 .bf16) (f : M.view.ty.Contents (Elt Ideal)) (b : Fin 2) (h : Fin 4) (j : Fin 128) (d : Fin 64) :
    (hA M).view.read (Elt Ideal) f (ix4 b h j d) = M.view.read (Elt Ideal) f (ix4 b h ⟨j.val, by omega⟩ d) := by
  have : rA.emb (ix4 b h j d) = (ix4 b h ⟨j.val, by omega⟩ d : S2x4x256x64.Idx) := by
    refine funext fun a => Fin.ext ?_
    fin_cases a
    · show 0 + 1 * b.val = b.val; omega
    · show 0 + 1 * h.val = h.val; omega
    · show 0 + 1 * j.val = j.val; omega
    · show 0 + 1 * d.val = d.val; omega
  rw [← this]; rfl
theorem readB_at (M : Memref sig .tc .vmem S2x4x256x64 .bf16) (f : M.view.ty.Contents (Elt Ideal)) (b : Fin 2) (h : Fin 4) (j : Fin 128) (d : Fin 64) :
    (hB M).view.read (Elt Ideal) f (ix4 b h j d) = M.view.read (Elt Ideal) f (ix4 b h ⟨128 + j.val, by omega⟩ d) := by
  have : rB.emb (ix4 b h j d) = (ix4 b h ⟨128 + j.val, by omega⟩ d : S2x4x256x64.Idx) := by
    refine funext fun a => Fin.ext ?_
    fin_cases a
    · show 0 + 1 * b.val = b.val; omega
    · show 0 + 1 * h.val = h.val; omega
    · show 128 + 1 * j.val = 128 + j.val; omega
    · show 0 + 1 * d.val = d.val; omega
  rw [← this]; rfl
theorem zeroA_at (b : Fin 2) (h : Fin 4) (j : Fin 128) (d : Fin 64) : (k0_pay2 (F := Ideal)) (ix4 b h j d) = 0 := by
  pointwise [k0_pay2]
theorem zeroB_at (b : Fin 2) (h : Fin 4) (j : Fin 128) (d : Fin 64) : (k0_pay3 (F := Ideal)) (ix4 b h j d) = 0 := by
  pointwise [k0_pay3]

/-! ## What the host computes before the launch -/

variable (m : (ℓ : Loc nD τ sig) → Buf (Elt Ideal) ℓ) (c : Dev nD)

theorem V2_at (b : Fin 2) (h : Fin 4) (j : Fin 256) (d : Fin 64) :
    (V m c main_v2 : S2x4x256x64.Idx → EReal) (ix4 b h j d) = (m ((c.tc : Thread nD τ).loc main_arg2) : S2x256x4x64.Idx → EReal) (ix4 b j h d) := by
  unfold V
  after_reads_at
theorem V4_at (b : Fin 2) (h : Fin 4) (j : Fin 256) (d : Fin 64) :
    (V m c main_v4 : S2x4x256x64.Idx → EReal) (ix4 b h j d) = (m ((c.tc : Thread nD τ).loc main_arg3) : S2x256x4x64.Idx → EReal) (ix4 b j h d) := by
  unfold V
  after_reads_at
theorem V9_at (w : S512x256.Idx → EReal) (hw : m ((c.tc : Thread nD τ).loc main_arg1) = w) (h : Fin 4) (e : Fin 512) (d : Fin 64) :
    (V m c main_v9 : S4x512x64.Idx → EReal) (ix3 h e d) = w (ix2 e (col h d)) * Ideal.ofBits .f32 0x3E000000#32 := by
  subst hw
  unfold V
  after_reads_at
theorem V10_at (p : Fin 256) (n : Fin 512) :
    (V m c main_v10 : S256x512.Idx → EReal) (ix2 p n) = (m ((c.tc : Thread nD τ).loc main_arg4) : S256x512.Idx → EReal) (ix2 p n) := by
  unfold V
  after_reads_at

end Cert.KernelIdeal.Win
-- ==== Proof.Window.lean ====
/-
A row's window, split by where its keys lie: among the device's own 256 rows, and among the 256 halo rows (the left
neighbour's last 128 and the right neighbour's first 128).
-/
module

public import proofs.«01_k».proof.Proof.HeadsAt

@[expose] public section

noncomputable section

namespace Cert.KernelIdeal.Win

open Cert.KernelIdeal Cert.KernelIdeal.Gen
open Idealize.ShloMosaic
open Cert.Win

/-- Device `c`'s row `r` among all 2048. -/
abbrev gl (c : Dev nD) (r : Fin 256) : Fin 2048 := ⟨256 * c.val + r.val, by have h : c.val < 8 := c.isLt; omega⟩
/-- Device `c`'s halo row `j` among all 2048 (where there is one). -/
def gh (c : Dev nD) (j : Fin 256) : Fin 2048 := ⟨(if j.val < 128 then 256 * c.val + j.val - 128 else 256 * c.val + 128 + j.val) % 2048, Nat.mod_lt _ (by decide)⟩

theorem gh_lo (c : Dev nD) (j : Fin 256) (h : j.val < 128) (hL : HasL c) : (gh c j).val = 256 * c.val + j.val - 128 := by
  have h8 : c.val < 8 := c.isLt
  show (if j.val < 128 then _ else _) % 2048 = _
  rw [if_pos h]; omega
theorem gh_hi (c : Dev nD) (j : Fin 256) (h : 128 ≤ j.val) (hR : HasR c) : (gh c j).val = 256 * c.val + 128 + j.val := by
  have h8 : c.val < 7 := hR
  show (if j.val < 128 then _ else _) % 2048 = _
  rw [if_neg (by omega)]; omega

/-- Of a halo row seen, its place: outside the device's own rows, inside the window. -/
theorem gh_spec (c : Dev nD) (r j : Fin 256) (h : nearH c r j) :
    ((j.val < 128 ∧ (gh c j).val + 128 = 256 * c.val + j.val) ∨ (128 ≤ j.val ∧ (gh c j).val = 256 * c.val + 128 + j.val)) ∧ near (gl c r).val (gh c j).val := by
  rcases h with ⟨⟨h1, h2⟩, hL⟩ | ⟨⟨h1, h2⟩, hR⟩
  · have e := gh_lo c j h1 hL
    have hL' : 0 < c.val := hL
    refine ⟨.inl ⟨h1, by omega⟩, ?_⟩
    show 256 * c.val + r.val ≤ (gh c j).val + 128 ∧ (gh c j).val ≤ 256 * c.val + r.val + 128
    omega
  · have e := gh_hi c j h1 hR
    refine ⟨.inr ⟨h1, by omega⟩, ?_⟩
    show 256 * c.val + r.val ≤ (gh c j).val + 128 ∧ (gh c j).val ≤ 256 * c.val + r.val + 128
    omega

theorem gl_inj (c : Dev nD) (a b : Fin 256) (h : gl c a = gl c b) : a = b := by
  have : 256 * c.val + a.val = 256 * c.val + b.val := congrArg Fin.val h
  exact Fin.ext (by omega)

theorem gh_inj (c : Dev nD) (r a b : Fin 256) (ha : nearH c r a) (hb : nearH c r b) (h : gh c a = gh c b) : a = b := by
  have ha' := (gh_spec c r a ha).1
  have hb' := (gh_spec c r b hb).1
  rw [h] at ha'
  clear ha hb
  have hA := a.isLt
  have hB := b.isLt
  exact Fin.ext (by omega)

theorem gh_ne_gl (c : Dev nD) (r j i : Fin 256) (hj : nearH c r j) : gl c i ≠ gh c j := by
  intro h
  have hs := (gh_spec c r j hj).1
  have hv : 256 * c.val + i.val = (gh c j).val := congrArg Fin.val h
  clear hj h
  have hA := i.isLt
  have hB := j.isLt
  omega

/-- A key in a row's window is one of the device's own rows or a halo row seen. -/
theorem covered (c : Dev nD) (r : Fin 256) (k : Fin 2048) (hn : near (gl c r).val k.val) :
    (∃ i, gl c i = k) ∨ ∃ j, nearH c r j ∧ gh c j = k := by
  have hkl := k.isLt
  have h8 : c.val < 8 := c.isLt
  have hr := r.isLt
  have hn' : 256 * c.val + r.val ≤ k.val + 128 ∧ k.val ≤ 256 * c.val + r.val + 128 := hn
  clear hn
  by_cases hlo : k.val < 256 * c.val
  · have b1 : k.val + 128 - 256 * c.val < 128 := by omega
    have b2 : r.val ≤ k.val + 128 - 256 * c.val := by omega
    have hL : HasL c := by show 0 < c.val; omega
    refine .inr ⟨⟨k.val + 128 - 256 * c.val, by omega⟩, .inl ⟨⟨b1, b2⟩, hL⟩, Fin.ext ?_⟩
    rw [gh_lo c _ b1 hL]
    show 256 * c.val + (k.val + 128 - 256 * c.val) - 128 = k.val
    omega
  · by_cases hhi : k.val < 256 * c.val + 256
    · refine .inl ⟨⟨k.val - 256 * c.val, by omega⟩, Fin.ext ?_⟩
      show 256 * c.val + (k.val - 256 * c.val) = k.val
      omega
    · have b1 : 128 ≤ k.val - 128 - 256 * c.val := by omega
      have b2 : k.val - 128 - 256 * c.val ≤ r.val := by omega
      have hR : HasR c := by show c.val < 7; omega
      refine .inr ⟨⟨k.val - 128 - 256 * c.val, by omega⟩, .inr ⟨⟨b1, b2⟩, hR⟩, Fin.ext ?_⟩
      rw [gh_hi c _ b1 hR]
      show 256 * c.val + 128 + (k.val - 128 - 256 * c.val) = k.val
      omega

/-- A sum over all keys of what vanishes outside row `r`'s window is the sum over the device's own rows and over the halo rows seen. -/
theorem split_sum (c : Dev nD) (r : Fin 256) (f : Fin 2048 → ℝ) (hf : ∀ k : Fin 2048, ¬ near (gl c r).val k.val → f k = 0) :
    ∑ k, f k = (∑ j : Fin 256, f (gl c j)) + ∑ j : Fin 256, if nearH c r j then f (gh c j) else 0 := by
  classical
  rw [← Finset.sum_add_sum_compl (Finset.univ.image (gl c)) f]
  refine congrArg₂ (· + ·) (Finset.sum_image fun a _ b _ h => gl_inj c a b h) ?_
  rw [← Finset.sum_filter]
  have hinj : Set.InjOn (gh c) (Finset.univ.filter fun j => nearH c r j : Finset (Fin 256)) := fun a ha b hb h =>
    gh_inj c r a b (Finset.mem_filter.mp ha).2 (Finset.mem_filter.mp hb).2 h
  rw [← Finset.sum_image (f := f) hinj]
  refine (Finset.sum_subset ?_ ?_).symm
  · intro k hk
    obtain ⟨j, hj, rfl⟩ := Finset.mem_image.mp hk
    rw [Finset.mem_compl]
    intro hk'
    obtain ⟨i, -, hi⟩ := Finset.mem_image.mp hk'
    exact gh_ne_gl c r j i (Finset.mem_filter.mp hj).2 hi
  · intro k hk hk'
    refine hf k fun hn => ?_
    rcases covered c r k hn with ⟨i, hi⟩ | ⟨j, hj, hjk⟩
    · exact Finset.mem_compl.mp hk (Finset.mem_image.mpr ⟨i, Finset.mem_univ _, hi⟩)
    · exact hk' (Finset.mem_image.mpr ⟨j, Finset.mem_filter.mpr ⟨Finset.mem_univ _, hj⟩, hjk⟩)

/-- A sum over the 256 columns, head by head. -/
theorem sum_heads (f : Fin 256 → ℝ) : ∑ p, f p = ∑ h : Fin 4, ∑ d : Fin 64, f (col h d) := by
  rw [← Fintype.sum_prod_type' (f := fun h d => f (col h d))]
  refine (Fintype.sum_equiv (finProdFinEquiv (m := 4) (n := 64)) _ _ fun p => ?_).symm
  refine congrArg f (Fin.ext ?_)
  show p.1.val * 64 + p.2.val = p.2.val + 64 * p.1.val
  omega

end Cert.KernelIdeal.Win
-- ==== Proof.KernelVal.lean ====
/-
The body's output on real arrays: each head is the spec's attention of the device's rows, and the output the spec's result.
-/
module

public import proofs.«01_k».proof.Proof.Window

@[expose] public section

noncomputable section

namespace Cert.KernelIdeal.Win

open Cert.KernelIdeal Cert.KernelIdeal.Gen
open Idealize.ShloMosaic
open Cert.Win

/-- What the buffers of device `c` hold when the body computes, over the spec's arrays. -/
structure Sees (A : Arrs) (c : Dev nD) (x : S2x256x512.Idx → EReal) (wq : S4x512x64.Idx → EReal) (k v : S2x4x256x64.Idx → EReal) (wo : S256x512.Idx → EReal)
    (kh vh : S2x4x256x64.Idx → EReal) : Prop where
  x : ∀ b r e, x (ix3 b r e) = (A.x b (gl c r) e : EReal)
  wq : ∀ h e d, wq (ix3 h e d) = ((A.wq e (col h d) * 0.125 : ℝ) : EReal)
  k : ∀ b h j d, k (ix4 b h j d) = (A.k b (gl c j) h d : EReal)
  v : ∀ b h j d, v (ix4 b h j d) = (A.v b (gl c j) h d : EReal)
  wo : ∀ p n, wo (ix2 p n) = (A.wo p n : EReal)
  kh : ∀ b h j d r, nearH c r j → kh (ix4 b h j d) = (A.k b (gh c j) h d : EReal)
  vh : ∀ b h j d r, nearH c r j → vh (ix4 b h j d) = (A.v b (gh c j) h d : EReal)

variable (A : Arrs) (c : Dev nD) (x : xM.view.ty.Contents (Elt Ideal)) (wq : wqM.view.ty.Contents (Elt Ideal)) (k : kM.view.ty.Contents (Elt Ideal)) (v : vM.view.ty.Contents (Elt Ideal))
    (wo : woM.view.ty.Contents (Elt Ideal)) (kh : khM.view.ty.Contents (Elt Ideal)) (vh : vhM.view.ty.Contents (Elt Ideal)) (H : Sees A c x wq k v wo kh vh)

/-- The query rows, over the reals: the scale is in the weights. -/
def qR (b : Fin 2) (h : Fin 4) (i : Fin 2048) (d : Fin 64) : ℝ := ∑ e : Fin 512, A.x b i e * (A.wq e (col h d) * 0.125)

theorem score_eq (b : Fin 2) (h : Fin 4) (i j : Fin 2048) : ∑ d : Fin 64, qR A b h i d * A.k b j h d = score A b h i j := by
  unfold score qR
  rw [Finset.sum_mul]
  refine Finset.sum_congr rfl fun d _ => ?_
  rw [Finset.sum_mul, Finset.sum_mul, Finset.sum_mul]
  refine Finset.sum_congr rfl fun e _ => ?_
  ring

include H

theorem q_real (b : Fin 2) (h : Fin 4) (r : Fin 256) (d : Fin 64) : qV (ldX x b) (ldW wq h) (ix2 r d) = (qR A b h (gl c r) d : EReal) := by
  rw [qV_at]
  have e : ∀ e : Fin 512, ldX x b (ix3 0 r e) * ldW wq h (ix3 0 e d) = ((A.x b (gl c r) e * (A.wq e (col h d) * 0.125) : ℝ) : EReal) := fun e => by
    rw [ldX_at, ldW_at, EReal.coe_mul]
    exact congrArg₂ (fun p q : EReal => p * q) (H.x b r e) (H.wq h e d)
  rw [Finset.sum_congr rfl fun e' _ => e e', sum_coe]
  rfl

/-- The weights against the device's own keys. -/
theorem wl_real (b : Fin 2) (h : Fin 4) (r j : Fin 256) :
    wV mLoc (qV (ldX x b) (ldW wq h)) (ldK kM k b h) (ix2 r j) = (wt A b h (gl c r) (gl c j) : EReal) := by
  rw [wV_at, mLoc_at, select_if]
  have e : ∀ d : Fin 64, qV (ldX x b) (ldW wq h) (ix2 r d) * ldK kM k b h (ix4 0 0 j d) = ((qR A b h (gl c r) d * A.k b (gl c j) h d : ℝ) : EReal) := fun d => by
    rw [ldk_at, EReal.coe_mul]
    exact congrArg₂ (fun p q : EReal => p * q) (q_real A c x wq k v wo kh vh H b h r d) (H.k b h j d)
  rw [Finset.sum_congr rfl fun d _ => e d, sum_coe, score_eq, exp_coe']
  have hn : near j.val r.val ↔ near (gl c r).val (gl c j).val := by
    show (j.val ≤ r.val + 128 ∧ r.val ≤ j.val + 128) ↔ (256 * c.val + r.val ≤ 256 * c.val + j.val + 128 ∧ 256 * c.val + j.val ≤ 256 * c.val + r.val + 128)
    omega
  unfold wt
  by_cases hh : near j.val r.val
  · rw [if_pos hh, if_pos (hn.mp hh)]
  · rw [if_neg hh, if_neg (fun h' => hh (hn.mpr h'))]; rfl

/-- The weights against the halo keys: zero where none is seen. -/
theorem wh_real (b : Fin 2) (h : Fin 4) (r j : Fin 256) :
    wV (mHalo c) (qV (ldX x b) (ldW wq h)) (ldK khM kh b h) (ix2 r j) = ((if nearH c r j then wt A b h (gl c r) (gh c j) else 0 : ℝ) : EReal) := by
  rw [wV_at, mHalo_at, select_if]
  by_cases hh : nearH c r j
  · rw [if_pos hh, if_pos hh]
    have e : ∀ d : Fin 64, qV (ldX x b) (ldW wq h) (ix2 r d) * ldK khM kh b h (ix4 0 0 j d) = ((qR A b h (gl c r) d * A.k b (gh c j) h d : ℝ) : EReal) := fun d => by
      rw [ldkh_at, EReal.coe_mul]
      exact congrArg₂ (fun p q : EReal => p * q) (q_real A c x wq k v wo kh vh H b h r d) (H.kh b h j d r hh)
    rw [Finset.sum_congr rfl fun d _ => e d, sum_coe, score_eq, exp_coe']
    unfold wt
    rw [if_pos (gh_spec c r j hh).2]
  · rw [if_neg hh, if_neg hh]; rfl

/-- A head is the spec's attention. -/
theorem head_real (b : Fin 2) (h : Fin 4) (r : Fin 256) (d : Fin 64) : headV c x wq k v kh vh b h (ix2 r d) = (att A b h (gl c r) d : EReal) := by
  unfold headV
  rw [hV_at]
  have e1 : ∀ j : Fin 256, wV mLoc (qV (ldX x b) (ldW wq h)) (ldK kM k b h) (ix2 r j) * ldK vM v b h (ix4 0 0 j d) = ((wt A b h (gl c r) (gl c j) * A.v b (gl c j) h d : ℝ) : EReal) := fun j => by
    rw [ldv_at, EReal.coe_mul]
    exact congrArg₂ (fun p q : EReal => p * q) (wl_real A c x wq k v wo kh vh H b h r j) (H.v b h j d)
  have e2 : ∀ j : Fin 256, wV (mHalo c) (qV (ldX x b) (ldW wq h)) (ldK khM kh b h) (ix2 r j) * ldK vhM vh b h (ix4 0 0 j d) = ((if nearH c r j then wt A b h (gl c r) (gh c j) * A.v b (gh c j) h d else 0 : ℝ) : EReal) := fun j => by
    rw [ldvh_at, wh_real A c x wq k v wo kh vh H b h r j]
    by_cases hh : nearH c r j
    · rw [if_pos hh, if_pos hh, EReal.coe_mul]
      exact congrArg (fun q : EReal => (wt A b h (gl c r) (gh c j) : EReal) * q) (H.vh b h j d r hh)
    · rw [if_neg hh, if_neg hh]; exact zero_mul _
  rw [Finset.sum_congr rfl fun j _ => e1 j, Finset.sum_congr rfl fun j _ => e2 j, Finset.sum_congr rfl fun j _ => wl_real A c x wq k v wo kh vh H b h r j,
    Finset.sum_congr rfl fun j _ => wh_real A c x wq k v wo kh vh H b h r j, sum_coe, sum_coe, sum_coe, sum_coe, ← EReal.coe_add, ← EReal.coe_add]
  have w0 : ∀ j : Fin 2048, ¬ near (gl c r).val j.val → wt A b h (gl c r) j = 0 := fun j hj => if_neg hj
  rw [← split_sum c r (fun j => wt A b h (gl c r) j * A.v b j h d) (fun j hj => by rw [w0 j hj, zero_mul]), ← split_sum c r (fun j => wt A b h (gl c r) j) w0]
  exact div_coe' _ _ (den_pos A b h (gl c r)).ne'

/-- A batch's output is the spec's result on the device's rows. -/
theorem out_real (b : Fin 2) (r : Fin 256) (n : Fin 512) : outV c x wq k v wo kh vh b (ix2 r n) = (res A b (gl c r) n : EReal) := by
  have eo : ∀ h : Fin 4, oV (headV c x wq k v kh vh b h) (ldO wo h) (ix2 r n) = ((∑ d : Fin 64, att A b h (gl c r) d * A.wo (col h d) n : ℝ) : EReal) := fun h => by
    rw [oV_at]
    have e : ∀ d : Fin 64, headV c x wq k v kh vh b h (ix2 r d) * ldO wo h (ix2 d n) = ((att A b h (gl c r) d * A.wo (col h d) n : ℝ) : EReal) := fun d => by
      rw [ldO_at, EReal.coe_mul]
      exact congrArg₂ (fun p q : EReal => p * q) (head_real A c x wq k v wo kh vh H b h r d) (H.wo (col h d) n)
    rw [Finset.sum_congr rfl fun d _ => e d, sum_coe]
  have hs : outV c x wq k v wo kh vh b (ix2 r n) = 0 + oV (headV c x wq k v kh vh b 0) (ldO wo 0) (ix2 r n) + oV (headV c x wq k v kh vh b 1) (ldO wo 1) (ix2 r n)
      + oV (headV c x wq k v kh vh b 2) (ldO wo 2) (ix2 r n) + oV (headV c x wq k v kh vh b 3) (ldO wo 3) (ix2 r n) := by
    have z : (Scalar.ofBits .f32 0x00000000#32 : Ideal .f32) = (0 : EReal) := Ideal.ofBits_zero_f32
    rw [← z]; rfl
  rw [hs, eo, eo, eo, eo, zero_add, ← EReal.coe_add, ← EReal.coe_add, ← EReal.coe_add]
  refine congrArg Real.toEReal ?_
  unfold res
  rw [sum_heads, Fin.sum_univ_four]
  have hc : ∀ (h : Fin 4) (d : Fin 64), att A b (hd (col h d)) (gl c r) (dd (col h d)) * A.wo (col h d) n = att A b h (gl c r) d * A.wo (col h d) n := fun h d => by
    have h1 : hd (col h d) = h := Fin.ext (by show (h.val * 64 + d.val) / 64 = h.val; omega)
    have h2 : dd (col h d) = d := Fin.ext (by show (h.val * 64 + d.val) % 64 = d.val; omega)
    rw [h1, h2]
  simp only [hc]

end Cert.KernelIdeal.Win
-- ==== Proof.Value.lean ====
/-
The value claim: from devices that hold the blocks of the reference's arrays, every entry finite, the kernel's results
are the blocks of the reference's result.
-/
module

public import proofs.«01_k».proof.Defs
public import proofs.«01_k».proof.Proof.Finite
public import proofs.«01_k».proof.Proof.RefVal
public import proofs.«01_k».proof.Proof.KernelVal
public import proofs.«01_k».proof.Proof.Launch

@[expose] public section

noncomputable section

namespace Cert.Win

open Idealize.ShloMosaic

/-- Block `c` of an array `[2, 2048, 512]` along its rows. -/
theorem block3_at (c : Fin 8) (v : (⟨3, ![2, 2048, 512]⟩ : Shape).Idx → EReal) (ht : Layout.Tiles ⟨3, ![2, 256, 512]⟩ ⟨3, ![2, 2048, 512]⟩ 1 8) (b : Fin 2) (r : Fin 256) (e : Fin 512) :
    Layout.block ⟨3, ![2, 256, 512]⟩ ⟨3, ![2, 2048, 512]⟩ 1 8 c v ht (ix3 b r e) = v (ix3 b ⟨256 * c.val + r.val, by omega⟩ e) := by
  refine congrArg v (funext fun a => Fin.ext ?_)
  fin_cases a
  · rfl
  · show c.val * 256 + r.val = 256 * c.val + r.val; omega
  · rfl
/-- Block `c` of an array `[2, 2048, 4, 64]` along its rows. -/
theorem block4_at (c : Fin 8) (v : (⟨4, ![2, 2048, 4, 64]⟩ : Shape).Idx → EReal) (ht : Layout.Tiles ⟨4, ![2, 256, 4, 64]⟩ ⟨4, ![2, 2048, 4, 64]⟩ 1 8) (b : Fin 2) (r : Fin 256) (h : Fin 4) (d : Fin 64) :
    Layout.block ⟨4, ![2, 256, 4, 64]⟩ ⟨4, ![2, 2048, 4, 64]⟩ 1 8 c v ht (ix4 b r h d) = v (ix4 b ⟨256 * c.val + r.val, by omega⟩ h d) := by
  refine congrArg v (funext fun a => Fin.ext ?_)
  fin_cases a
  · rfl
  · show c.val * 256 + r.val = 256 * c.val + r.val; omega
  · rfl
  · rfl

/-- An array of reals, by its real entries. -/
theorem toReal_of {s : Shape} {x : s.Idx → EReal} (h : ∀ i, ∃ r : ℝ, x i = (r : EReal)) (i : s.Idx) : x i = ((x i).toReal : EReal) := by
  obtain ⟨r, hr⟩ := h i
  rw [hr]; rfl

/-- A row's device and its place there. -/
theorem row_split (i : Fin 2048) : ∃ (c : Fin 8) (r : Fin 256), (⟨256 * c.val + r.val, by omega⟩ : Fin 2048) = i :=
  ⟨⟨i.val / 256, by omega⟩, ⟨i.val % 256, by omega⟩, Fin.ext (by show 256 * (i.val / 256) + i.val % 256 = i.val; omega)⟩

end Cert.Win

namespace Cert.KernelIdeal.Win

open Cert.KernelIdeal Cert.KernelIdeal.Gen
open Idealize.ShloMosaic
open Idealize.ShloMosaic.TcCoe
open Cert.Win

variable (m : (ℓ : Loc nD τ sig) → Buf (Elt Ideal) ℓ)

/-- The devices hold the blocks of the spec's arrays. -/
structure Holds (A : Arrs) : Prop where
  x : ∀ (c : Dev nD) b r e, (m ((c.tc : Thread nD τ).loc main_arg0) : S2x256x512.Idx → EReal) (ix3 b r e) = (A.x b (gl c r) e : EReal)
  wq : ∀ (c : Dev nD) e p, (m ((c.tc : Thread nD τ).loc main_arg1) : S512x256.Idx → EReal) (ix2 e p) = (A.wq e p : EReal)
  k : ∀ (c : Dev nD) b j h d, (m ((c.tc : Thread nD τ).loc main_arg2) : S2x256x4x64.Idx → EReal) (ix4 b j h d) = (A.k b (gl c j) h d : EReal)
  v : ∀ (c : Dev nD) b j h d, (m ((c.tc : Thread nD τ).loc main_arg3) : S2x256x4x64.Idx → EReal) (ix4 b j h d) = (A.v b (gl c j) h d : EReal)
  wo : ∀ (c : Dev nD) p n, (m ((c.tc : Thread nD τ).loc main_arg4) : S256x512.Idx → EReal) (ix2 p n) = (A.wo p n : EReal)

theorem gl_prv (c : Dev nD) (hL : HasL c) (j : Fin 256) (hj : j.val < 128) : gl (prv c) ⟨128 + j.val, by omega⟩ = gh c j := by
  have h8 : c.val < 8 := c.isLt
  have hL' : 0 < c.val := hL
  refine Fin.ext ?_
  rw [gh_lo c j hj hL]
  show 256 * ((c.val + 7) % 8) + (128 + j.val) = 256 * c.val + j.val - 128
  omega
theorem gl_nxt (c : Dev nD) (hR : HasR c) (j : Fin 256) (hj : 128 ≤ j.val) : gl (nxt c) ⟨j.val - 128, by omega⟩ = gh c j := by
  have hR' : c.val < 7 := hR
  refine Fin.ext ?_
  rw [gh_hi c j hj hR]
  show 256 * ((c.val + 1) % 8) + (j.val - 128) = 256 * c.val + 128 + j.val
  omega

/-- A halo buffer's row that is seen is the neighbour's. -/
theorem halo_row (c : Dev nD) (M Mh : Memref sig .tc .vmem S2x4x256x64 .bf16) (f fp fn : S2x4x256x64.Idx → EReal) (a : Fin 2 → Fin 2048 → Fin 4 → Fin 64 → ℝ)
    (gA : HasL c → ∀ b h (j : Fin 128) d, f (ix4 b h ⟨j.val, by omega⟩ d) = fp (ix4 b h ⟨128 + j.val, by omega⟩ d))
    (gB : HasR c → ∀ b h (j : Fin 128) d, f (ix4 b h ⟨128 + j.val, by omega⟩ d) = fn (ix4 b h ⟨j.val, by omega⟩ d))
    (hp : ∀ b h j d, fp (ix4 b h j d) = (a b (gl (prv c) j) h d : EReal)) (hn : ∀ b h j d, fn (ix4 b h j d) = (a b (gl (nxt c) j) h d : EReal))
    (b : Fin 2) (h : Fin 4) (j : Fin 256) (d : Fin 64) (r : Fin 256) (hs : nearH c r j) : f (ix4 b h j d) = (a b (gh c j) h d : EReal) := by
  rcases hs with ⟨⟨h1, -⟩, hL⟩ | ⟨⟨h1, -⟩, hR⟩
  · have := gA hL b h ⟨j.val, h1⟩ d
    rw [hp, gl_prv c hL j h1] at this
    exact this
  · have := gB hR b h ⟨j.val - 128, by omega⟩ d
    rw [hn, gl_nxt c hR j h1] at this
    have e : (⟨128 + (j.val - 128), by omega⟩ : Fin 256) = j := Fin.ext (by show 128 + (j.val - 128) = j.val; omega)
    exact (congrArg (fun q : Fin 256 => f (ix4 b h q d)) e).symm.trans this

/-- What the kernel leaves on device `c`, at an index: the spec's result. -/
theorem out_at (A : Arrs) (H : Holds m A) (c : Dev nD) (X : FVec Ideal S2x256x512 .f32) (hX : Out m c X) (b : Fin 2) (r : Fin 256) (n : Fin 512) :
    X (ix3 b r n) = (res A b (gl c r) n : EReal) := by
  obtain ⟨kh, vh, o, hH, rfl⟩ := hX
  have hk : ∀ (c : Dev nD) b h j d, (V m c main_v2 : S2x4x256x64.Idx → EReal) (ix4 b h j d) = (A.k b (gl c j) h d : EReal) := fun c b h j d =>
    (V2_at m c b h j d).trans (H.k c b j h d)
  have hv : ∀ (c : Dev nD) b h j d, (V m c main_v4 : S2x4x256x64.Idx → EReal) (ix4 b h j d) = (A.v b (gl c j) h d : EReal) := fun c b h j d =>
    (V4_at m c b h j d).trans (H.v c b j h d)
  obtain ⟨kA, kB, vA, vB, -, -⟩ := hH
  refine (outF_at (Dm m) c kh vh o b r n).trans (out_real A c _ _ _ _ _ kh vh ⟨?_, ?_, hk c, hv c, ?_, ?_, ?_⟩ b r n)
  · intro b r e
    exact (congrFun (V_main_arg0 m c) (ix3 b r e)).trans (H.x c b r e)
  · intro h e d
    refine (V9_at m c _ rfl h e d).trans ?_
    rw [eighth, EReal.coe_mul]
    exact congrArg (fun q : EReal => q * ((0.125 : ℝ) : EReal)) (H.wq c e (col h d))
  · intro p n
    exact (V10_at m c p n).trans (H.wo c p n)
  · exact halo_row c kM khM kh (V m (prv c) main_v2) (V m (nxt c) main_v2) A.k
      (fun hL b h j d => ((readA_at khM kh b h j d).symm.trans (congrFun (kA hL) (ix4 b h j d))).trans (readB_at kM _ b h j d))
      (fun hR b h j d => ((readB_at khM kh b h j d).symm.trans (congrFun (kB hR) (ix4 b h j d))).trans (readA_at kM _ b h j d))
      (hk (prv c)) (hk (nxt c))
  · exact halo_row c vM vhM vh (V m (prv c) main_v4) (V m (nxt c) main_v4) A.v
      (fun hL b h j d => ((readA_at vhM vh b h j d).symm.trans (congrFun (vA hL) (ix4 b h j d))).trans (readB_at vM _ b h j d))
      (fun hR b h j d => ((readB_at vhM vh b h j d).symm.trans (congrFun (vB hR) (ix4 b h j d))).trans (readA_at vM _ b h j d))
      (hv (prv c)) (hv (nxt c))

end Cert.KernelIdeal.Win

namespace Cert.Proof

open Idealize.ShloMosaic Idealize.ShloMosaic.TcCoe
open Cert.Win Cert.KernelIdeal.Win

/-- The spec's arrays of the reference's arguments. -/
def arrsOf (x : (⟨3, ![2, 2048, 512]⟩ : Shape).Idx → EReal) (wq : (⟨2, ![512, 256]⟩ : Shape).Idx → EReal)
    (k v : (⟨4, ![2, 2048, 4, 64]⟩ : Shape).Idx → EReal) (wo : (⟨2, ![256, 512]⟩ : Shape).Idx → EReal) : Arrs where
  x b i e := (x (ix3 b i e)).toReal
  wq e p := (wq (ix2 e p)).toReal
  k b j h d := (k (ix4 b j h d)).toReal
  v b j h d := (v (ix4 b j h d)).toReal
  wo p n := (wo (ix2 p n)).toReal

/-- Entry by entry real from block by block real. -/
theorem real_of_blocks3 (x : (⟨3, ![2, 2048, 512]⟩ : Shape).Idx → EReal) (ht : Layout.Tiles ⟨3, ![2, 256, 512]⟩ ⟨3, ![2, 2048, 512]⟩ 1 8)
    (h : ∀ (c : Fin 8) i, ∃ r : ℝ, Layout.block ⟨3, ![2, 256, 512]⟩ ⟨3, ![2, 2048, 512]⟩ 1 8 c x ht i = (r : EReal)) (b : Fin 2) (i : Fin 2048) (e : Fin 512) :
    x (ix3 b i e) = ((x (ix3 b i e)).toReal : EReal) := by
  obtain ⟨c, r, rfl⟩ := row_split i
  obtain ⟨z, hz⟩ := h c (ix3 b r e)
  rw [block3_at] at hz
  rw [hz]; rfl
theorem real_of_blocks4 (x : (⟨4, ![2, 2048, 4, 64]⟩ : Shape).Idx → EReal) (ht : Layout.Tiles ⟨4, ![2, 256, 4, 64]⟩ ⟨4, ![2, 2048, 4, 64]⟩ 1 8)
    (h : ∀ (c : Fin 8) i, ∃ r : ℝ, Layout.block ⟨4, ![2, 256, 4, 64]⟩ ⟨4, ![2, 2048, 4, 64]⟩ 1 8 c x ht i = (r : EReal)) (b : Fin 2) (i : Fin 2048) (g : Fin 4) (d : Fin 64) :
    x (ix4 b i g d) = ((x (ix4 b i g d)).toReal : EReal) := by
  obtain ⟨c, r, rfl⟩ := row_split i
  obtain ⟨z, hz⟩ := h c (ix4 b r g d)
  rw [block4_at] at hz
  rw [hz]; rfl

/-- The value claim. -/
theorem value : Cert.algebraic_KernelIdeal_ReferenceIdeal_pre_finite_inputs_KernelIdeal := by
  intro m g m' g' hpre hag
  have hf := fun c => Cert.Pre_finite_inputs_KernelIdeal.real_of_fn _ _ _ _ _ (hpre c)
  have hx := real_of_blocks3 _ _ fun c i => (hag c).1 ▸ (hf c).1 i
  have hwq := toReal_of (s := ⟨2, ![512, 256]⟩) ((hag 0).2.1 ▸ (hf 0).2.1)
  have hk := real_of_blocks4 _ _ fun c i => (hag c).2.2.1 ▸ (hf c).2.2.1 i
  have hv := real_of_blocks4 _ _ fun c i => (hag c).2.2.2.1 ▸ (hf c).2.2.2.1 i
  have hwo := toReal_of (s := ⟨2, ![256, 512]⟩) ((hag 0).2.2.2.2 ▸ (hf 0).2.2.2.2)
  have H : Holds m (arrsOf _ _ _ _ _) :=
    { x := fun c b r e => (congrFun (hag c).1 (ix3 b r e)).trans ((block3_at c _ _ b r e).trans (hx b (gl c r) e))
      wq := fun c e p => (congrFun (hag c).2.1 (ix2 e p)).trans (hwq (ix2 e p))
      k := fun c b j h d => (congrFun (hag c).2.2.1 (ix4 b j h d)).trans ((block4_at c _ _ b j h d).trans (hk b (gl c j) h d))
      v := fun c b j h d => (congrFun (hag c).2.2.2.1 (ix4 b j h d)).trans ((block4_at c _ _ b j h d).trans (hv b (gl c j) h d))
      wo := fun c p n => (congrFun (hag c).2.2.2.2 (ix2 p n)).trans (hwo (ix2 p n)) }
  refine ⟨Cert.ReferenceIdeal.Value.res_main_v34 m' 0, (θ_run Cert.KernelIdeal.defs _ _).mono (fun r h c => ⟨?_, (h.1 c).1, (h.1 c).2.1, (h.1 c).2.2.1, (h.1 c).2.2.2.1, (h.1 c).2.2.2.2.1⟩)
      (run_main (F := Ideal) m g), (θ_run Cert.ReferenceIdeal.defs _ _).mono (fun r h => h 0) (Cert.ReferenceIdeal.Value.run (F := Ideal) m' g')⟩
  funext i
  obtain ⟨b, q, n, rfl⟩ : ∃ (b : Fin 2) (q : Fin 256) (n : Fin 512), i = ix3 b q n := ⟨i 0, i 1, i 2, by funext a; fin_cases a <;> rfl⟩
  refine (out_at m _ H c _ (h.1 c).2.2.2.2.2 b q n).trans ?_
  refine Eq.symm ((block3_at c _ _ b q n).trans ?_)
  rw [Cert.ReferenceIdeal.Win.res_eq]
  exact Cert.ReferenceIdeal.Win.rRes_real (arrsOf _ _ _ _ _) _ _ _ _ _ hx (fun e p => hwq (ix2 e p)) hk hv (fun p n => hwo (ix2 p n)) b (gl c q) n

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_KernelIdeal.Gen.facts, Cert.Pre_finite_inputs_ReferenceIdeal.Gen.facts,
  frame_kernel, frame_ideal, fun m ρ _ => frame_ideal m ρ trivial, frame_reference, fun m ρ _ => frame_reference m ρ trivial, trivial, value⟩

end Cert.Proof

end
